-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x2048 : Shape := ⟨3, ![24, 1, 2048]⟩
abbrev S5x24x2x2048 : Shape := ⟨4, ![5, 24, 2, 2048]⟩
abbrev S5x24x2 : Shape := ⟨3, ![5, 24, 2]⟩
abbrev S5x3x2048x2048 : Shape := ⟨4, ![5, 3, 2048, 2048]⟩
abbrev S5x2048 : Shape := ⟨2, ![5, 2048]⟩
abbrev S24 : Shape := ⟨1, ![24]⟩
abbrev S24x2048 : Shape := ⟨2, ![24, 2048]⟩
abbrev S5x2x24x2048 : Shape := ⟨4, ![5, 2, 24, 2048]⟩
abbrev S5x2x24 : Shape := ⟨3, ![5, 2, 24]⟩
abbrev S1x24 : Shape := ⟨2, ![1, 24]⟩
abbrev S5x24x2048 : Shape := ⟨3, ![5, 24, 2048]⟩
abbrev S5x1x24 : Shape := ⟨3, ![5, 1, 24]⟩
abbrev S12x512x2048 : Shape := ⟨3, ![12, 512, 2048]⟩
abbrev S3x24x2048 : Shape := ⟨3, ![3, 24, 2048]⟩
abbrev S12 : Shape := ⟨1, ![12]⟩
abbrev S6 : Shape := ⟨1, ![6]⟩
abbrev S5 : Shape := ⟨1, ![5]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S1x1x512x2048 : Shape := ⟨4, ![1, 1, 512, 2048]⟩
abbrev S24x1 : Shape := ⟨2, ![24, 1]⟩
abbrev S24x256 : Shape := ⟨2, ![24, 256]⟩
abbrev S1x24x2048 : Shape := ⟨3, ![1, 24, 2048]⟩
abbrev S24x24 : Shape := ⟨2, ![24, 24]⟩
abbrev S1x1x24 : Shape := ⟨3, ![1, 1, 24]⟩
abbrev S1x1x24x2048 : Shape := ⟨4, ![1, 1, 24, 2048]⟩
abbrev S1x2x24x2048 : Shape := ⟨4, ![1, 2, 24, 2048]⟩
abbrev S2x24x2048 : Shape := ⟨3, ![2, 24, 2048]⟩
abbrev S1x24x512 : Shape := ⟨3, ![1, 24, 512]⟩
abbrev S24x512 : Shape := ⟨2, ![24, 512]⟩
abbrev S1x2048 : Shape := ⟨2, ![1, 2048]⟩
abbrev S5x24x1x2048 : Shape := ⟨4, ![5, 24, 1, 2048]⟩
abbrev S5x24x1 : Shape := ⟨3, ![5, 24, 1]⟩

abbrev nBuf : Space → Nat
  | .hbm => 21
  | .vmem => 14
  | .smem => 0
  | _ => 0

abbrev bufTy : (tb : Table) → Fin (tcTables nBuf tb) → BufTy
  | .hbm, ⟨0, _⟩ => ⟨S24x1x2048, .bf16⟩
  | .hbm, ⟨1, _⟩ => ⟨S5x24x2x2048, .fp8e4m3⟩
  | .hbm, ⟨2, _⟩ => ⟨S5x24x2, .f32⟩
  | .hbm, ⟨3, _⟩ => ⟨S5x3x2048x2048, .fp8e4m3⟩
  | .hbm, ⟨4, _⟩ => ⟨S5x2048, .f32⟩
  | .hbm, ⟨5, _⟩ => ⟨S5x2048, .f32⟩
  | .hbm, ⟨6, _⟩ => ⟨S24, .i32⟩
  | .hbm, ⟨7, _⟩ => ⟨S24x2048, .bf16⟩
  | .hbm, ⟨8, _⟩ => ⟨S5x2x24x2048, .fp8e4m3⟩
  | .hbm, ⟨9, _⟩ => ⟨S5x2x24, .f32⟩
  | .hbm, ⟨10, _⟩ => ⟨S1x24, .i32⟩
  | .hbm, ⟨11, _⟩ => ⟨S24x2048, .bf16⟩
  | .hbm, ⟨12, _⟩ => ⟨S5x24x2048, .fp8e4m3⟩
  | .hbm, ⟨13, _⟩ => ⟨S5x1x24, .f32⟩
  | .hbm, ⟨14, _⟩ => ⟨S5x2x24x2048, .fp8e4m3⟩
  | .hbm, ⟨15, _⟩ => ⟨S5x2x24, .f32⟩
  | .hbm, ⟨16, _⟩ => ⟨S24x1x2048, .bf16⟩
  | .hbm, ⟨17, _⟩ => ⟨S5x24x1x2048, .fp8e4m3⟩
  | .hbm, ⟨18, _⟩ => ⟨S5x24x1, .f32⟩
  | .hbm, ⟨19, _⟩ => ⟨S5x24x2x2048, .fp8e4m3⟩
  | .hbm, ⟨20, _⟩ => ⟨S5x24x2, .f32⟩
  | .local _ .vmem, ⟨0, _⟩ => ⟨S12x512x2048, .fp8e4m3⟩
  | .local _ .vmem, ⟨1, _⟩ => ⟨S24x2048, .bf16⟩
  | .local _ .vmem, ⟨2, _⟩ => ⟨S5x2x24x2048, .fp8e4m3⟩
  | .local _ .vmem, ⟨3, _⟩ => ⟨S5x2x24, .f32⟩
  | .local _ .vmem, ⟨4, _⟩ => ⟨S5x2048, .f32⟩
  | .local _ .vmem, ⟨5, _⟩ => ⟨S5x2048, .f32⟩
  | .local _ .vmem, ⟨6, _⟩ => ⟨S1x24, .i32⟩
  | .local _ .vmem, ⟨7, _⟩ => ⟨S3x24x2048, .bf16⟩
  | .local _ .vmem, ⟨8, _⟩ => ⟨S24x2048, .f32⟩
  | .local _ .vmem, ⟨9, _⟩ => ⟨S24x2048, .bf16⟩
  | .local _ .vmem, ⟨10, _⟩ => ⟨S5x24x2048, .fp8e4m3⟩
  | .local _ .vmem, ⟨11, _⟩ => ⟨S5x1x24, .f32⟩
  | .local _ .vmem, ⟨12, _⟩ => ⟨S5x2x24x2048, .fp8e4m3⟩
  | .local _ .vmem, ⟨13, _⟩ => ⟨S5x2x24, .f32⟩
  | _, _ => ⟨S24x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩

abbrev nD : Nat := 1
abbrev τ : Topo := Topo.v7x

variable {F : FTy → Type} [FloatOps F]

abbrev grid0 : Pipeline.Grid := .none

@[reducible] def k0_t1_loop : Scf.Loop 32 :=
  let c0_i32_171 : BitVec 32 := 0#32
  let c4_i32_172 : BitVec 32 := 4#32
  let v240 : BitVec 32 := Scalar.addi c0_i32_171 c4_i32_172
  let c1_i32_173 : BitVec 32 := 1#32
  ⟨c0_i32_171, v240, c1_i32_173⟩
def k0_off1 (k0_t1 : Fin k0_t1_loop.trips) : Fin 3 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let v602 : Index := Scalar.indexCast v585
  let c0_521 : Index := 0#32
  let c0_522 : Index := 0#32
  ![v602.toNat, 0, 0]
def k0_off2 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let v618 : Index := Scalar.indexCast v585
  let c0_525 : Index := 0#32
  let c0_526 : Index := 0#32
  let c0_527 : Index := 0#32
  ![v618.toNat, 0, 0, 0]
def k0_off3 (k0_t1 : Fin k0_t1_loop.trips) : Fin 3 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let v624 : Index := Scalar.indexCast v585
  let c1_528 : Index := 1#32
  let c0_529 : Index := 0#32
  ![v624.toNat, 1, 0]
def k0_off4 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let v640 : Index := Scalar.indexCast v585
  let c1_532 : Index := 1#32
  let c0_533 : Index := 0#32
  let c0_534 : Index := 0#32
  ![v640.toNat, 1, 0, 0]
def k0_off5 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c0_i32_541 : BitVec 32 := 0#32
  let c0_i32_546 : BitVec 32 := 0#32
  let c0_i32_547 : BitVec 32 := 0#32
  ![v585.toNat, 0, 0, 0]
def k0_off6 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_557 : BitVec 32 := 1#32
  let v674 : BitVec 32 := Scalar.addi v585 c1_i32_557
  let c0_i32_558 : BitVec 32 := 0#32
  let c0_i32_563 : BitVec 32 := 0#32
  let c0_i32_564 : BitVec 32 := 0#32
  ![v674.toNat, 0, 0, 0]
def k0_off7 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c0_i32_565 : BitVec 32 := 0#32
  let c512_i32_570 : BitVec 32 := 512#32
  let c0_i32_571 : BitVec 32 := 0#32
  ![v585.toNat, 0, 512, 0]
def k0_off8 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_583 : BitVec 32 := 1#32
  let v697 : BitVec 32 := Scalar.addi v585 c1_i32_583
  let c0_i32_584 : BitVec 32 := 0#32
  let c512_i32_589 : BitVec 32 := 512#32
  let c0_i32_590 : BitVec 32 := 0#32
  ![v697.toNat, 0, 512, 0]
def k0_off9 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c0_i32_591 : BitVec 32 := 0#32
  let c1024_i32_596 : BitVec 32 := 1024#32
  let c0_i32_597 : BitVec 32 := 0#32
  ![v585.toNat, 0, 1024, 0]
def k0_off10 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_609 : BitVec 32 := 1#32
  let v720 : BitVec 32 := Scalar.addi v585 c1_i32_609
  let c0_i32_610 : BitVec 32 := 0#32
  let c1024_i32_615 : BitVec 32 := 1024#32
  let c0_i32_616 : BitVec 32 := 0#32
  ![v720.toNat, 0, 1024, 0]
def k0_off11 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c0_i32_617 : BitVec 32 := 0#32
  let c1536_i32_622 : BitVec 32 := 1536#32
  let c0_i32_623 : BitVec 32 := 0#32
  ![v585.toNat, 0, 1536, 0]
def k0_off12 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_635 : BitVec 32 := 1#32
  let v743 : BitVec 32 := Scalar.addi v585 c1_i32_635
  let c0_i32_636 : BitVec 32 := 0#32
  let c1536_i32_641 : BitVec 32 := 1536#32
  let c0_i32_642 : BitVec 32 := 0#32
  ![v743.toNat, 0, 1536, 0]
def k0_off13 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_643 : BitVec 32 := 1#32
  let c0_i32_648 : BitVec 32 := 0#32
  let c0_i32_649 : BitVec 32 := 0#32
  ![v585.toNat, 1, 0, 0]
def k0_off14 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_661 : BitVec 32 := 1#32
  let v766 : BitVec 32 := Scalar.addi v585 c1_i32_661
  let c1_i32_662 : BitVec 32 := 1#32
  let c0_i32_667 : BitVec 32 := 0#32
  let c0_i32_668 : BitVec 32 := 0#32
  ![v766.toNat, 1, 0, 0]
def k0_off15 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_669 : BitVec 32 := 1#32
  let c512_i32_674 : BitVec 32 := 512#32
  let c0_i32_675 : BitVec 32 := 0#32
  ![v585.toNat, 1, 512, 0]
def k0_off16 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_687 : BitVec 32 := 1#32
  let v789 : BitVec 32 := Scalar.addi v585 c1_i32_687
  let c1_i32_688 : BitVec 32 := 1#32
  let c512_i32_693 : BitVec 32 := 512#32
  let c0_i32_694 : BitVec 32 := 0#32
  ![v789.toNat, 1, 512, 0]
def k0_off17 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_695 : BitVec 32 := 1#32
  let c1024_i32_700 : BitVec 32 := 1024#32
  let c0_i32_701 : BitVec 32 := 0#32
  ![v585.toNat, 1, 1024, 0]
def k0_off18 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_713 : BitVec 32 := 1#32
  let v812 : BitVec 32 := Scalar.addi v585 c1_i32_713
  let c1_i32_714 : BitVec 32 := 1#32
  let c1024_i32_719 : BitVec 32 := 1024#32
  let c0_i32_720 : BitVec 32 := 0#32
  ![v812.toNat, 1, 1024, 0]
def k0_off19 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_721 : BitVec 32 := 1#32
  let c1536_i32_726 : BitVec 32 := 1536#32
  let c0_i32_727 : BitVec 32 := 0#32
  ![v585.toNat, 1, 1536, 0]
def k0_off20 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_739 : BitVec 32 := 1#32
  let v835 : BitVec 32 := Scalar.addi v585 c1_i32_739
  let c1_i32_740 : BitVec 32 := 1#32
  let c1536_i32_745 : BitVec 32 := 1536#32
  let c0_i32_746 : BitVec 32 := 0#32
  ![v835.toNat, 1, 1536, 0]
def k0_off21 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c2_i32_747 : BitVec 32 := 2#32
  let c0_i32_752 : BitVec 32 := 0#32
  let c0_i32_753 : BitVec 32 := 0#32
  ![v585.toNat, 2, 0, 0]
def k0_off22 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_765 : BitVec 32 := 1#32
  let v858 : BitVec 32 := Scalar.addi v585 c1_i32_765
  let c2_i32_766 : BitVec 32 := 2#32
  let c0_i32_771 : BitVec 32 := 0#32
  let c0_i32_772 : BitVec 32 := 0#32
  ![v858.toNat, 2, 0, 0]
def k0_off23 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c2_i32_773 : BitVec 32 := 2#32
  let c512_i32_778 : BitVec 32 := 512#32
  let c0_i32_779 : BitVec 32 := 0#32
  ![v585.toNat, 2, 512, 0]
def k0_off24 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_791 : BitVec 32 := 1#32
  let v881 : BitVec 32 := Scalar.addi v585 c1_i32_791
  let c2_i32_792 : BitVec 32 := 2#32
  let c512_i32_797 : BitVec 32 := 512#32
  let c0_i32_798 : BitVec 32 := 0#32
  ![v881.toNat, 2, 512, 0]
def k0_off25 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c2_i32_799 : BitVec 32 := 2#32
  let c1024_i32_804 : BitVec 32 := 1024#32
  let c0_i32_805 : BitVec 32 := 0#32
  ![v585.toNat, 2, 1024, 0]
def k0_off26 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_817 : BitVec 32 := 1#32
  let v904 : BitVec 32 := Scalar.addi v585 c1_i32_817
  let c2_i32_818 : BitVec 32 := 2#32
  let c1024_i32_823 : BitVec 32 := 1024#32
  let c0_i32_824 : BitVec 32 := 0#32
  ![v904.toNat, 2, 1024, 0]
def k0_off27 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c2_i32_825 : BitVec 32 := 2#32
  let c1536_i32_830 : BitVec 32 := 1536#32
  let c0_i32_831 : BitVec 32 := 0#32
  ![v585.toNat, 2, 1536, 0]
def k0_off28 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_843 : BitVec 32 := 1#32
  let v927 : BitVec 32 := Scalar.addi v585 c1_i32_843
  let c2_i32_844 : BitVec 32 := 2#32
  let c1536_i32_849 : BitVec 32 := 1536#32
  let c0_i32_850 : BitVec 32 := 0#32
  ![v927.toNat, 2, 1536, 0]
def k0_off29 (k0_t1 : Fin k0_t1_loop.trips) : Fin 2 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let v935 : Index := Scalar.indexCast v585
  let c0_853 : Index := 0#32
  ![v935.toNat, 0]
def k0_off30 (k0_t1 : Fin k0_t1_loop.trips) : Fin 3 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_855 : BitVec 32 := 1#32
  let v943 : BitVec 32 := Scalar.addi v585 c1_i32_855
  let v1000 : Index := Scalar.indexCast v943
  let c0_877 : Index := 0#32
  let c0_878 : Index := 0#32
  ![v1000.toNat, 0, 0]
def k0_off31 (k0_t1 : Fin k0_t1_loop.trips) : Fin 3 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_855 : BitVec 32 := 1#32
  let v943 : BitVec 32 := Scalar.addi v585 c1_i32_855
  let v1022 : Index := Scalar.indexCast v943
  let c0_884 : Index := 0#32
  let c0_885 : Index := 0#32
  ![v1022.toNat, 0, 0]
def k0_off32 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_855 : BitVec 32 := 1#32
  let v943 : BitVec 32 := Scalar.addi v585 c1_i32_855
  let v1039 : Index := Scalar.indexCast v943
  let c0_890 : Index := 0#32
  let c0_891 : Index := 0#32
  let c0_892 : Index := 0#32
  ![v1039.toNat, 0, 0, 0]
def k0_off33 (k0_t1 : Fin k0_t1_loop.trips) : Fin 3 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_855 : BitVec 32 := 1#32
  let v943 : BitVec 32 := Scalar.addi v585 c1_i32_855
  let v1059 : Index := Scalar.indexCast v943
  let c0_900 : Index := 0#32
  let c0_901 : Index := 0#32
  ![v1059.toNat, 0, 0]
def k0_off34 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_855 : BitVec 32 := 1#32
  let v943 : BitVec 32 := Scalar.addi v585 c1_i32_855
  let v1067 : Index := Scalar.indexCast v943
  let c1_904 : Index := 1#32
  let c0_905 : Index := 0#32
  let c0_906 : Index := 0#32
  ![v1067.toNat, 1, 0, 0]
def k0_off35 (k0_t1 : Fin k0_t1_loop.trips) : Fin 3 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_855 : BitVec 32 := 1#32
  let v943 : BitVec 32 := Scalar.addi v585 c1_i32_855
  let v1087 : Index := Scalar.indexCast v943
  let c1_914 : Index := 1#32
  let c0_915 : Index := 0#32
  ![v1087.toNat, 1, 0]
def k0_off36 (k0_t1 : Fin k0_t1_loop.trips) : Fin 3 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_855 : BitVec 32 := 1#32
  let v943 : BitVec 32 := Scalar.addi v585 c1_i32_855
  let c0_i32_919 : BitVec 32 := 0#32
  let c0_i32_920 : BitVec 32 := 0#32
  ![v943.toNat, 0, 0]
def k0_off37 (k0_t1 : Fin k0_t1_loop.trips) : Fin 4 → Nat :=
  let c0_i32_514 : BitVec 32 := 0#32
  let c0_i32_171 : BitVec 32 := 0#32
  let c1_i32_173 : BitVec 32 := 1#32
  let arg29 : BitVec 32 := Scf.iv c0_i32_171 c1_i32_173 k0_t1
  let c1_i32_513 : BitVec 32 := 1#32
  let v584 : BitVec 32 := Scalar.muli arg29 c1_i32_513
  let v585 : BitVec 32 := Scalar.addi c0_i32_514 v584
  let c1_i32_855 : BitVec 32 := 1#32
  let v943 : BitVec 32 := Scalar.addi v585 c1_i32_855
  let c0_i32_924 : BitVec 32 := 0#32
  let c0_i32_925 : BitVec 32 := 0#32
  let c0_i32_926 : BitVec 32 := 0#32
  ![v943.toNat, 0, 0, 0]
-- ==== ReferenceIdeal.lean ====
abbrev S24x1x2048 : Shape := ⟨3, ![24, 1, 2048]⟩
abbrev S5x24x2x2048 : Shape := ⟨4, ![5, 24, 2, 2048]⟩
abbrev S5x24x2 : Shape := ⟨3, ![5, 24, 2]⟩
abbrev S5x3x2048x2048 : Shape := ⟨4, ![5, 3, 2048, 2048]⟩
abbrev S5x2048 : Shape := ⟨2, ![5, 2048]⟩
abbrev S24 : Shape := ⟨1, ![24]⟩
abbrev S24x1 : Shape := ⟨2, ![24, 1]⟩
abbrev S5x24x1x2048 : Shape := ⟨4, ![5, 24, 1, 2048]⟩
abbrev S5x24x1 : Shape := ⟨3, ![5, 24, 1]⟩
abbrev S24x2048 : Shape := ⟨2, ![24, 2048]⟩
abbrev S1x24x1x2048 : Shape := ⟨4, ![1, 24, 1, 2048]⟩
abbrev S1x24x1 : Shape := ⟨3, ![1, 24, 1]⟩
abbrev S1x1x2048x2048 : Shape := ⟨4, ![1, 1, 2048, 2048]⟩
abbrev S2048x2048 : Shape := ⟨2, ![2048, 2048]⟩
abbrev S1x2048 : Shape := ⟨2, ![1, 2048]⟩
abbrev S24x2x2048 : Shape := ⟨3, ![24, 2, 2048]⟩
abbrev S24x1x1 : Shape := ⟨3, ![24, 1, 1]⟩
abbrev S1x24x2x2048 : Shape := ⟨4, ![1, 24, 2, 2048]⟩
abbrev S24x2 : Shape := ⟨2, ![24, 2]⟩
abbrev S1x24x2 : Shape := ⟨3, ![1, 24, 2]⟩

abbrev nBuf : Space → Nat
  | .hbm => 13
  | .vmem => 12
  | .smem => 0
  | _ => 0

abbrev bufTy : (tb : Table) → Fin (tcTables nBuf tb) → BufTy
  | .hbm, ⟨0, _⟩ => ⟨S24x1x2048, .bf16⟩
  | .hbm, ⟨1, _⟩ => ⟨S5x24x2x2048, .fp8e4m3⟩
  | .hbm, ⟨2, _⟩ => ⟨S5x24x2, .f32⟩
  | .hbm, ⟨3, _⟩ => ⟨S5x3x2048x2048, .fp8e4m3⟩
  | .hbm, ⟨4, _⟩ => ⟨S5x2048, .f32⟩
  | .hbm, ⟨5, _⟩ => ⟨S5x2048, .f32⟩
  | .hbm, ⟨6, _⟩ => ⟨S24, .i32⟩
  | .hbm, ⟨7, _⟩ => ⟨S24x1, .i32⟩
  | .hbm, ⟨8, _⟩ => ⟨S24x1x2048, .bf16⟩
  | .hbm, ⟨9, _⟩ => ⟨S5x24x1x2048, .fp8e4m3⟩
  | .hbm, ⟨10, _⟩ => ⟨S5x24x1, .f32⟩
  | .hbm, ⟨11, _⟩ => ⟨S5x24x2x2048, .fp8e4m3⟩
  | .hbm, ⟨12, _⟩ => ⟨S5x24x2, .f32⟩
  | .local _ .vmem, ⟨0, _⟩ => ⟨S24x1x2048, .bf16⟩
  | .local _ .vmem, ⟨1, _⟩ => ⟨S5x24x2x2048, .fp8e4m3⟩
  | .local _ .vmem, ⟨2, _⟩ => ⟨S5x24x2, .f32⟩
  | .local _ .vmem, ⟨3, _⟩ => ⟨S5x3x2048x2048, .fp8e4m3⟩
  | .local _ .vmem, ⟨4, _⟩ => ⟨S5x2048, .f32⟩
  | .local _ .vmem, ⟨5, _⟩ => ⟨S5x2048, .f32⟩
  | .local _ .vmem, ⟨6, _⟩ => ⟨S24x1, .i32⟩
  | .local _ .vmem, ⟨7, _⟩ => ⟨S24x1x2048, .bf16⟩
  | .local _ .vmem, ⟨8, _⟩ => ⟨S5x24x1x2048, .fp8e4m3⟩
  | .local _ .vmem, ⟨9, _⟩ => ⟨S5x24x1, .f32⟩
  | .local _ .vmem, ⟨10, _⟩ => ⟨S5x24x2x2048, .fp8e4m3⟩
  | .local _ .vmem, ⟨11, _⟩ => ⟨S5x24x2, .f32⟩
  | _, _ => ⟨S24x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c5_i32 : BitVec 32 := 5#32
  let v6 : BitVec 32 := Scalar.addi c0_i32 c5_i32
  let c1_i32 : BitVec 32 := 1#32
  ⟨c0_i32, v6, c1_i32⟩
def k0_off1 (k0_t1 : Fin k0_t1_loop.trips) : Fin 4 → Nat :=
  let c0_i32 : BitVec 32 := 0#32
  let c1_i32 : BitVec 32 := 1#32
  let arg12 : BitVec 32 := Scf.iv c0_i32 c1_i32 k0_t1
  let v42 : Index := Scalar.indexCast arg12
  let c0_18 : Index := 0#32
  let c0_19 : Index := 0#32
  let c0_20 : Index := 0#32
  ![v42.toNat, 0, 0, 0]
def k0_off2 (k0_t1 : Fin k0_t1_loop.trips) : Fin 3 → Nat :=
  let c0_i32 : BitVec 32 := 0#32
  let c1_i32 : BitVec 32 := 1#32
  let arg12 : BitVec 32 := Scf.iv c0_i32 c1_i32 k0_t1
  let v46 : Index := Scalar.indexCast arg12
  let c0_21 : Index := 0#32
  let c0_22 : Index := 0#32
  ![v46.toNat, 0, 0]
def k0_off3 (k0_t1 : Fin k0_t1_loop.trips) : Fin 4 → Nat :=
  let c0_i32 : BitVec 32 := 0#32
  let c1_i32 : BitVec 32 := 1#32
  let arg12 : BitVec 32 := Scf.iv c0_i32 c1_i32 k0_t1
  let v70 : Index := Scalar.indexCast arg12
  let c0_30 : Index := 0#32
  let c1 : Index := 1#32
  let c0_31 : Index := 0#32
  ![v70.toNat, 0, 1, 0]
def k0_off4 (k0_t1 : Fin k0_t1_loop.trips) : Fin 4 → Nat :=
  let c0_i32 : BitVec 32 := 0#32
  let c1_i32 : BitVec 32 := 1#32
  let arg12 : BitVec 32 := Scf.iv c0_i32 c1_i32 k0_t1
  let v74 : Index := Scalar.indexCast arg12
  let c0_32 : Index := 0#32
  let c0_33 : Index := 0#32
  let c0_34 : Index := 0#32
  ![v74.toNat, 0, 0, 0]
def k0_off5 (k0_t1 : Fin k0_t1_loop.trips) : Fin 3 → Nat :=
  let c0_i32 : BitVec 32 := 0#32
  let c1_i32 : BitVec 32 := 1#32
  let arg12 : BitVec 32 := Scf.iv c0_i32 c1_i32 k0_t1
  let v81 : Index := Scalar.indexCast arg12
  let c0_35 : Index := 0#32
  let c1_36 : Index := 1#32
  ![v81.toNat, 0, 1]
def k0_off6 (k0_t1 : Fin k0_t1_loop.trips) : Fin 3 → Nat :=
  let c0_i32 : BitVec 32 := 0#32
  let c1_i32 : BitVec 32 := 1#32
  let arg12 : BitVec 32 := Scf.iv c0_i32 c1_i32 k0_t1
  let v84 : Index := Scalar.indexCast arg12
  let c0_37 : Index := 0#32
  let c0_38 : Index := 0#32
  ![v84.toNat, 0, 0]
def k0_off7 (k0_t1 : Fin k0_t1_loop.trips) : Fin 4 → Nat :=
  let c0_i32 : BitVec 32 := 0#32
  let c1_i32 : BitVec 32 := 1#32
  let arg12 : BitVec 32 := Scf.iv c0_i32 c1_i32 k0_t1
  let v133 : Index := Scalar.indexCast arg12
  let c0_58 : Index := 0#32
  let c0_59 : Index := 0#32
  let c0_60 : Index := 0#32
  ![v133.toNat, 0, 0, 0]
def k0_off8 (k0_t1 : Fin k0_t1_loop.trips) : Fin 4 → Nat :=
  let c0_i32 : BitVec 32 := 0#32
  let c1_i32 : BitVec 32 := 1#32
  let arg12 : BitVec 32 := Scf.iv c0_i32 c1_i32 k0_t1
  let v143 : Index := Scalar.indexCast arg12
  let c1_62 : Index := 1#32
  let c0_63 : Index := 0#32
  let c0_64 : Index := 0#32
  ![v143.toNat, 1, 0, 0]
def k0_off9 (k0_t1 : Fin k0_t1_loop.trips) : Fin 4 → Nat :=
  let c0_i32 : BitVec 32 := 0#32
  let c1_i32 : BitVec 32 := 1#32
  let arg12 : BitVec 32 := Scf.iv c0_i32 c1_i32 k0_t1
  let v153 : Index := Scalar.indexCast arg12
  let c2 : Index := 2#32
  let c0_66 : Index := 0#32
  let c0_67 : Index := 0#32
  ![v153.toNat, 2, 0, 0]
def k0_off10 (k0_t1 : Fin k0_t1_loop.trips) : Fin 2 → Nat :=
  let c0_i32 : BitVec 32 := 0#32
  let c1_i32 : BitVec 32 := 1#32
  let arg12 : BitVec 32 := Scf.iv c0_i32 c1_i32 k0_t1
  let v159 : Index := Scalar.indexCast arg12
  let c0_69 : Index := 0#32
  ![v159.toNat, 0]
def k0_off11 (k0_t1 : Fin k0_t1_loop.trips) : Fin 4 → Nat :=
  let c0_i32 : BitVec 32 := 0#32
  let c1_i32 : BitVec 32 := 1#32
  let arg12 : BitVec 32 := Scf.iv c0_i32 c1_i32 k0_t1
  let v201 : Index := Scalar.indexCast arg12
  let c0_79 : Index := 0#32
  let c0_80 : Index := 0#32
  let c0_81 : Index := 0#32
  ![v201.toNat, 0, 0, 0]
def k0_off12 (k0_t1 : Fin k0_t1_loop.trips) : Fin 3 → Nat :=
  let c0_i32 : BitVec 32 := 0#32
  let c1_i32 : BitVec 32 := 1#32
  let arg12 : BitVec 32 := Scf.iv c0_i32 c1_i32 k0_t1
  let v233 : Index := Scalar.indexCast arg12
  let c0_90 : Index := 0#32
  let c0_91 : Index := 0#32
  ![v233.toNat, 0, 0]
abbrev stage0_0 : Fin 1 → Memref sig .tc .vmem S24x1x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x24x2x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x24x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x3x2048x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x1x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x24x1x2048 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5x24x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5x24x2x2048 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S5x24x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Ideal.Names.lean ====
/- The kernel's buffers, the slabs of the arrays that travel one layer at a time, and the closed forms of the
   loop's offsets. -/
module

public import proofs.«01_k».proof.Defs
public import proofs.«01_k».proof.Proof.Gen.KernelIdeal.Launch
public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Affine
public import Idealize.ShloMosaic.Lib.Tactic

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The operands of the one call -/

abbrev xH : Memref sig .tc .hbm S24x2048 .bf16 := Memref.whole main_v0
abbrev scH : Memref sig .tc .hbm S5x2x24x2048 .fp8e4m3 := Memref.whole main_v1
abbrev ssH : Memref sig .tc .hbm S5x2x24 .f32 := Memref.whole main_v2
abbrev wH : Memref sig .tc .hbm S5x3x2048x2048 .fp8e4m3 := Memref.whole main_arg3
abbrev wsH : Memref sig .tc .hbm S5x2048 .f32 := Memref.whole main_arg4
abbrev bH : Memref sig .tc .hbm S5x2048 .f32 := Memref.whole main_arg5
abbrev posH : Memref sig .tc .hbm S1x24 .i32 := Memref.whole main_v3
abbrev yH : Memref sig .tc .hbm S24x2048 .bf16 := Memref.whole main_v4_0
abbrev codesH : Memref sig .tc .hbm S5x24x2048 .fp8e4m3 := Memref.whole main_v4_1
abbrev scalesH : Memref sig .tc .hbm S5x1x24 .f32 := Memref.whole main_v4_2
abbrev nscH : Memref sig .tc .hbm S5x2x24x2048 .fp8e4m3 := Memref.whole main_v4_3
abbrev nssH : Memref sig .tc .hbm S5x2x24 .f32 := Memref.whole main_v4_4
abbrev wB : Memref sig .tc .vmem S12x512x2048 .fp8e4m3 := Memref.whole cc0_scratch0
abbrev xB : Memref sig .tc .vmem S24x2048 .bf16 := Memref.whole cc0_scratch1
abbrev scB : Memref sig .tc .vmem S5x2x24x2048 .fp8e4m3 := Memref.whole cc0_scratch2
abbrev ssB : Memref sig .tc .vmem S5x2x24 .f32 := Memref.whole cc0_scratch3
abbrev wsB : Memref sig .tc .vmem S5x2048 .f32 := Memref.whole cc0_scratch4
abbrev bB : Memref sig .tc .vmem S5x2048 .f32 := Memref.whole cc0_scratch5
abbrev posB : Memref sig .tc .vmem S1x24 .i32 := Memref.whole cc0_scratch6
abbrev lhsB : Memref sig .tc .vmem S3x24x2048 .bf16 := Memref.whole cc0_scratch7
abbrev accB : Memref sig .tc .vmem S24x2048 .f32 := Memref.whole cc0_scratch8
abbrev yB : Memref sig .tc .vmem S24x2048 .bf16 := Memref.whole cc0_scratch9
abbrev codesB : Memref sig .tc .vmem S5x24x2048 .fp8e4m3 := Memref.whole cc0_scratch10
abbrev scalesB : Memref sig .tc .vmem S5x1x24 .f32 := Memref.whole cc0_scratch11
abbrev nscB : Memref sig .tc .vmem S5x2x24x2048 .fp8e4m3 := Memref.whole cc0_scratch12
abbrev nssB : Memref sig .tc .vmem S5x2x24 .f32 := Memref.whole cc0_scratch13

/-! ## Slabs: one layer of the codes, of the new state's codes; one slot of the weights' buffer -/

abbrev off3 (l : Fin 5) : Fin 3 → Nat := ![l.val, 0, 0]
abbrev off4 (l : Fin 5) : Fin 4 → Nat := ![l.val, 0, 0, 0]
theorem inbC (l : Fin 5) : ∀ a, off3 l a + S1x24x2048.size a ≤ S5x24x2048.size a := by revert l; decide
theorem inbN (l : Fin 5) : ∀ a, off4 l a + S1x2x24x2048.size a ≤ S5x2x24x2048.size a := by revert l; decide
abbrev rC (l : Fin 5) : Rect S5x24x2048 := Rect.unit (s := S5x24x2048) (off3 l) S1x24x2048.size (inbC l)
abbrev rN (l : Fin 5) : Rect S5x2x24x2048 := Rect.unit (s := S5x2x24x2048) (off4 l) S1x2x24x2048.size (inbN l)
def cSlab (l : Fin 5) : Memref sig .tc .vmem S24x2048 .fp8e4m3 :=
  (codesB.slice (rC l) (fun _ => rfl)).squeeze S24x2048 squeezes_S1x24x2048_S24x2048
def cOut (l : Fin 5) : Memref sig .tc .hbm S24x2048 .fp8e4m3 :=
  (codesH.slice (rC l) (fun _ => rfl)).squeeze S24x2048 squeezes_S1x24x2048_S24x2048
def nSlab (l : Fin 5) : Memref sig .tc .vmem S2x24x2048 .fp8e4m3 :=
  (nscB.slice (rN l) (fun _ => rfl)).squeeze S2x24x2048 squeezes_S1x2x24x2048_S2x24x2048
def nOut (l : Fin 5) : Memref sig .tc .hbm S2x24x2048 .fp8e4m3 :=
  (nscH.slice (rN l) (fun _ => rfl)).squeeze S2x24x2048 squeezes_S1x2x24x2048_S2x24x2048

abbrev offW (j : Fin 12) : Fin 3 → Nat := ![j.val, 0, 0]
theorem inbW (j : Fin 12) : ∀ a, offW j a + S1x512x2048.size a ≤ S12x512x2048.size a := by revert j; decide
abbrev rW (j : Fin 12) : Rect S12x512x2048 := Rect.unit (s := S12x512x2048) (offW j) S1x512x2048.size (inbW j)
def wSlot (j : Fin 12) : Memref sig .tc .vmem S512x2048 .fp8e4m3 :=
  (wB.slice (rW j) (fun _ => rfl)).squeeze S512x2048 squeezes_S1x512x2048_S512x2048

instance (l : Fin 5) : ClosedOff (off3 l) := ⟨off3 l, rfl⟩
instance (l : Fin 5) : ClosedOff (off4 l) := ⟨off4 l, rfl⟩
instance (j : Fin 12) : ClosedOff (offW j) := ⟨offW j, rfl⟩

/-! ## The loop's offsets -/

abbrev Trip : Type := Fin k0_t1_loop.trips
theorem trips_eq : k0_t1_loop.trips = 4 := by decide
theorem trip_lt (k : Trip) : k.val < 4 := Nat.lt_of_lt_of_eq k.isLt trips_eq
/-- The trip's layer, and the layer its results feed. -/
abbrev la (k : Trip) : Fin 5 := ⟨k.val, by have := trip_lt k; omega⟩
abbrev lb (k : Trip) : Fin 5 := ⟨k.val + 1, by have := trip_lt k; omega⟩

theorem off1_eq : ∀ k : Trip, k0_off1 k = ![k.val, 0, 0] := by decide
theorem off2_eq : ∀ k : Trip, k0_off2 k = ![k.val, 0, 0, 0] := by decide
theorem off3_eq : ∀ k : Trip, k0_off3 k = ![k.val, 1, 0] := by decide
theorem off4_eq : ∀ k : Trip, k0_off4 k = ![k.val, 1, 0, 0] := by decide
theorem off29_eq : ∀ k : Trip, k0_off29 k = ![k.val, 0] := by decide
theorem off30_eq : ∀ k : Trip, k0_off30 k = ![k.val + 1, 0, 0] := by decide
theorem off31_eq : ∀ k : Trip, k0_off31 k = ![k.val + 1, 0, 0] := by decide
theorem off32_eq : ∀ k : Trip, k0_off32 k = ![k.val + 1, 0, 0, 0] := by decide
theorem off33_eq : ∀ k : Trip, k0_off33 k = ![k.val + 1, 0, 0] := by decide
theorem off34_eq : ∀ k : Trip, k0_off34 k = ![k.val + 1, 1, 0, 0] := by decide
theorem off35_eq : ∀ k : Trip, k0_off35 k = ![k.val + 1, 1, 0] := by decide
theorem off36_eq : ∀ k : Trip, k0_off36 k = ![k.val + 1, 0, 0] := by decide
theorem off37_eq : ∀ k : Trip, k0_off37 k = ![k.val + 1, 0, 0, 0] := by decide

instance (k : Trip) : ClosedOff (k0_off1 k) := ⟨_, off1_eq k⟩
instance (k : Trip) : ClosedOff (k0_off2 k) := ⟨_, off2_eq k⟩
instance (k : Trip) : ClosedOff (k0_off3 k) := ⟨_, off3_eq k⟩
instance (k : Trip) : ClosedOff (k0_off4 k) := ⟨_, off4_eq k⟩
instance (k : Trip) : ClosedOff (k0_off29 k) := ⟨_, off29_eq k⟩
instance (k : Trip) : ClosedOff (k0_off30 k) := ⟨_, off30_eq k⟩
instance (k : Trip) : ClosedOff (k0_off31 k) := ⟨_, off31_eq k⟩
instance (k : Trip) : ClosedOff (k0_off32 k) := ⟨_, off32_eq k⟩
instance (k : Trip) : ClosedOff (k0_off33 k) := ⟨_, off33_eq k⟩
instance (k : Trip) : ClosedOff (k0_off34 k) := ⟨_, off34_eq k⟩
instance (k : Trip) : ClosedOff (k0_off35 k) := ⟨_, off35_eq k⟩
instance (k : Trip) : ClosedOff (k0_off36 k) := ⟨_, off36_eq k⟩
instance (k : Trip) : ClosedOff (k0_off37 k) := ⟨_, off37_eq k⟩

/-! ## The slices the body makes are these slabs -/

theorem cSlab_congr {off : Fin 3 → Nat} {l : Fin 5} (e : off = off3 l) (hh hs) :
    (codesB.slice (Rect.unit (s := S5x24x2048) off S1x24x2048.size hh) hs).squeeze S24x2048 squeezes_S1x24x2048_S24x2048 = cSlab l :=
  congrArg (fun M : Memref sig .tc .vmem S1x24x2048 .fp8e4m3 => M.squeeze S24x2048 squeezes_S1x24x2048_S24x2048) (Memref.slice_unit_congr _ e _ _ _ _)
theorem cOut_congr {off : Fin 3 → Nat} {l : Fin 5} (e : off = off3 l) (hh hs) :
    (codesH.slice (Rect.unit (s := S5x24x2048) off S1x24x2048.size hh) hs).squeeze S24x2048 squeezes_S1x24x2048_S24x2048 = cOut l :=
  congrArg (fun M : Memref sig .tc .hbm S1x24x2048 .fp8e4m3 => M.squeeze S24x2048 squeezes_S1x24x2048_S24x2048) (Memref.slice_unit_congr _ e _ _ _ _)
theorem nSlab_congr {off : Fin 4 → Nat} {l : Fin 5} (e : off = off4 l) (hh hs) :
    (nscB.slice (Rect.unit (s := S5x2x24x2048) off S1x2x24x2048.size hh) hs).squeeze S2x24x2048 squeezes_S1x2x24x2048_S2x24x2048 = nSlab l :=
  congrArg (fun M : Memref sig .tc .vmem S1x2x24x2048 .fp8e4m3 => M.squeeze S2x24x2048 squeezes_S1x2x24x2048_S2x24x2048) (Memref.slice_unit_congr _ e _ _ _ _)
theorem nOut_congr {off : Fin 4 → Nat} {l : Fin 5} (e : off = off4 l) (hh hs) :
    (nscH.slice (Rect.unit (s := S5x2x24x2048) off S1x2x24x2048.size hh) hs).squeeze S2x24x2048 squeezes_S1x2x24x2048_S2x24x2048 = nOut l :=
  congrArg (fun M : Memref sig .tc .hbm S1x2x24x2048 .fp8e4m3 => M.squeeze S2x24x2048 squeezes_S1x2x24x2048_S2x24x2048) (Memref.slice_unit_congr _ e _ _ _ _)
theorem wSlot_congr {off : Fin 3 → Nat} {j : Fin 12} (e : off = offW j) (hh hs) :
    (wB.slice (Rect.unit (s := S12x512x2048) off S1x512x2048.size hh) hs).squeeze S512x2048 squeezes_S1x512x2048_S512x2048 = wSlot j :=
  congrArg (fun M : Memref sig .tc .vmem S1x512x2048 .fp8e4m3 => M.squeeze S512x2048 squeezes_S1x512x2048_S512x2048) (Memref.slice_unit_congr _ e _ _ _ _)

@[sl_canon] theorem cSlabT (k : Trip) (hh hs) :
    (codesB.slice (Rect.unit (s := S5x24x2048) (k0_off36 k) S1x24x2048.size hh) hs).squeeze S24x2048 squeezes_S1x24x2048_S24x2048 = cSlab (lb k) := cSlab_congr (off36_eq k) _ _
@[sl_canon] theorem cOutT (k : Trip) (hh hs) :
    (codesH.slice (Rect.unit (s := S5x24x2048) (k0_off36 k) S1x24x2048.size hh) hs).squeeze S24x2048 squeezes_S1x24x2048_S24x2048 = cOut (lb k) := cOut_congr (off36_eq k) _ _
@[sl_canon] theorem nSlabT (k : Trip) (hh hs) :
    (nscB.slice (Rect.unit (s := S5x2x24x2048) (k0_off37 k) S1x2x24x2048.size hh) hs).squeeze S2x24x2048 squeezes_S1x2x24x2048_S2x24x2048 = nSlab (lb k) := nSlab_congr (off37_eq k) _ _
@[sl_canon] theorem nOutT (k : Trip) (hh hs) :
    (nscH.slice (Rect.unit (s := S5x2x24x2048) (k0_off37 k) S1x2x24x2048.size hh) hs).squeeze S2x24x2048 squeezes_S1x2x24x2048_S2x24x2048 = nOut (lb k) := nOut_congr (off37_eq k) _ _

@[sl_canon] theorem cSlabL0 (hh hs) : (codesB.slice (Rect.unit (s := S5x24x2048) ![0, 0, 0] S1x24x2048.size hh) hs).squeeze S24x2048 squeezes_S1x24x2048_S24x2048 = cSlab 0 := cSlab_congr (by decide) _ _
@[sl_canon] theorem cOutL0 (hh hs) : (codesH.slice (Rect.unit (s := S5x24x2048) ![0, 0, 0] S1x24x2048.size hh) hs).squeeze S24x2048 squeezes_S1x24x2048_S24x2048 = cOut 0 := cOut_congr (by decide) _ _
@[sl_canon] theorem nSlabL0 (hh hs) : (nscB.slice (Rect.unit (s := S5x2x24x2048) ![0, 0, 0, 0] S1x2x24x2048.size hh) hs).squeeze S2x24x2048 squeezes_S1x2x24x2048_S2x24x2048 = nSlab 0 := nSlab_congr (by decide) _ _
@[sl_canon] theorem nOutL0 (hh hs) : (nscH.slice (Rect.unit (s := S5x2x24x2048) ![0, 0, 0, 0] S1x2x24x2048.size hh) hs).squeeze S2x24x2048 squeezes_S1x2x24x2048_S2x24x2048 = nOut 0 := nOut_congr (by decide) _ _
@[sl_canon] theorem cSlabL1 (hh hs) : (codesB.slice (Rect.unit (s := S5x24x2048) ![1, 0, 0] S1x24x2048.size hh) hs).squeeze S24x2048 squeezes_S1x24x2048_S24x2048 = cSlab 1 := cSlab_congr (by decide) _ _
@[sl_canon] theorem cOutL1 (hh hs) : (codesH.slice (Rect.unit (s := S5x24x2048) ![1, 0, 0] S1x24x2048.size hh) hs).squeeze S24x2048 squeezes_S1x24x2048_S24x2048 = cOut 1 := cOut_congr (by decide) _ _
@[sl_canon] theorem nSlabL1 (hh hs) : (nscB.slice (Rect.unit (s := S5x2x24x2048) ![1, 0, 0, 0] S1x2x24x2048.size hh) hs).squeeze S2x24x2048 squeezes_S1x2x24x2048_S2x24x2048 = nSlab 1 := nSlab_congr (by decide) _ _
@[sl_canon] theorem nOutL1 (hh hs) : (nscH.slice (Rect.unit (s := S5x2x24x2048) ![1, 0, 0, 0] S1x2x24x2048.size hh) hs).squeeze S2x24x2048 squeezes_S1x2x24x2048_S2x24x2048 = nOut 1 := nOut_congr (by decide) _ _
@[sl_canon] theorem cSlabL2 (hh hs) : (codesB.slice (Rect.unit (s := S5x24x2048) ![2, 0, 0] S1x24x2048.size hh) hs).squeeze S24x2048 squeezes_S1x24x2048_S24x2048 = cSlab 2 := cSlab_congr (by decide) _ _
@[sl_canon] theorem cOutL2 (hh hs) : (codesH.slice (Rect.unit (s := S5x24x2048) ![2, 0, 0] S1x24x2048.size hh) hs).squeeze S24x2048 squeezes_S1x24x2048_S24x2048 = cOut 2 := cOut_congr (by decide) _ _
@[sl_canon] theorem nSlabL2 (hh hs) : (nscB.slice (Rect.unit (s := S5x2x24x2048) ![2, 0, 0, 0] S1x2x24x2048.size hh) hs).squeeze S2x24x2048 squeezes_S1x2x24x2048_S2x24x2048 = nSlab 2 := nSlab_congr (by decide) _ _
@[sl_canon] theorem nOutL2 (hh hs) : (nscH.slice (Rect.unit (s := S5x2x24x2048) ![2, 0, 0, 0] S1x2x24x2048.size hh) hs).squeeze S2x24x2048 squeezes_S1x2x24x2048_S2x24x2048 = nOut 2 := nOut_congr (by decide) _ _
@[sl_canon] theorem cSlabL3 (hh hs) : (codesB.slice (Rect.unit (s := S5x24x2048) ![3, 0, 0] S1x24x2048.size hh) hs).squeeze S24x2048 squeezes_S1x24x2048_S24x2048 = cSlab 3 := cSlab_congr (by decide) _ _
@[sl_canon] theorem cOutL3 (hh hs) : (codesH.slice (Rect.unit (s := S5x24x2048) ![3, 0, 0] S1x24x2048.size hh) hs).squeeze S24x2048 squeezes_S1x24x2048_S24x2048 = cOut 3 := cOut_congr (by decide) _ _
@[sl_canon] theorem nSlabL3 (hh hs) : (nscB.slice (Rect.unit (s := S5x2x24x2048) ![3, 0, 0, 0] S1x2x24x2048.size hh) hs).squeeze S2x24x2048 squeezes_S1x2x24x2048_S2x24x2048 = nSlab 3 := nSlab_congr (by decide) _ _
@[sl_canon] theorem nOutL3 (hh hs) : (nscH.slice (Rect.unit (s := S5x2x24x2048) ![3, 0, 0, 0] S1x2x24x2048.size hh) hs).squeeze S2x24x2048 squeezes_S1x2x24x2048_S2x24x2048 = nOut 3 := nOut_congr (by decide) _ _
@[sl_canon] theorem cSlabL4 (hh hs) : (codesB.slice (Rect.unit (s := S5x24x2048) ![4, 0, 0] S1x24x2048.size hh) hs).squeeze S24x2048 squeezes_S1x24x2048_S24x2048 = cSlab 4 := cSlab_congr (by decide) _ _
@[sl_canon] theorem cOutL4 (hh hs) : (codesH.slice (Rect.unit (s := S5x24x2048) ![4, 0, 0] S1x24x2048.size hh) hs).squeeze S24x2048 squeezes_S1x24x2048_S24x2048 = cOut 4 := cOut_congr (by decide) _ _
@[sl_canon] theorem nSlabL4 (hh hs) : (nscB.slice (Rect.unit (s := S5x2x24x2048) ![4, 0, 0, 0] S1x2x24x2048.size hh) hs).squeeze S2x24x2048 squeezes_S1x2x24x2048_S2x24x2048 = nSlab 4 := nSlab_congr (by decide) _ _
@[sl_canon] theorem nOutL4 (hh hs) : (nscH.slice (Rect.unit (s := S5x2x24x2048) ![4, 0, 0, 0] S1x2x24x2048.size hh) hs).squeeze S2x24x2048 squeezes_S1x2x24x2048_S2x24x2048 = nOut 4 := nOut_congr (by decide) _ _
@[sl_canon] theorem wSlotL0 (hh hs) : (wB.slice (Rect.unit (s := S12x512x2048) ![0, 0, 0] S1x512x2048.size hh) hs).squeeze S512x2048 squeezes_S1x512x2048_S512x2048 = wSlot 0 := wSlot_congr (by decide) _ _
@[sl_canon] theorem wSlotL1 (hh hs) : (wB.slice (Rect.unit (s := S12x512x2048) ![1, 0, 0] S1x512x2048.size hh) hs).squeeze S512x2048 squeezes_S1x512x2048_S512x2048 = wSlot 1 := wSlot_congr (by decide) _ _
@[sl_canon] theorem wSlotL2 (hh hs) : (wB.slice (Rect.unit (s := S12x512x2048) ![2, 0, 0] S1x512x2048.size hh) hs).squeeze S512x2048 squeezes_S1x512x2048_S512x2048 = wSlot 2 := wSlot_congr (by decide) _ _
@[sl_canon] theorem wSlotL3 (hh hs) : (wB.slice (Rect.unit (s := S12x512x2048) ![3, 0, 0] S1x512x2048.size hh) hs).squeeze S512x2048 squeezes_S1x512x2048_S512x2048 = wSlot 3 := wSlot_congr (by decide) _ _
@[sl_canon] theorem wSlotL4 (hh hs) : (wB.slice (Rect.unit (s := S12x512x2048) ![4, 0, 0] S1x512x2048.size hh) hs).squeeze S512x2048 squeezes_S1x512x2048_S512x2048 = wSlot 4 := wSlot_congr (by decide) _ _
@[sl_canon] theorem wSlotL5 (hh hs) : (wB.slice (Rect.unit (s := S12x512x2048) ![5, 0, 0] S1x512x2048.size hh) hs).squeeze S512x2048 squeezes_S1x512x2048_S512x2048 = wSlot 5 := wSlot_congr (by decide) _ _
@[sl_canon] theorem wSlotL6 (hh hs) : (wB.slice (Rect.unit (s := S12x512x2048) ![6, 0, 0] S1x512x2048.size hh) hs).squeeze S512x2048 squeezes_S1x512x2048_S512x2048 = wSlot 6 := wSlot_congr (by decide) _ _
@[sl_canon] theorem wSlotL7 (hh hs) : (wB.slice (Rect.unit (s := S12x512x2048) ![7, 0, 0] S1x512x2048.size hh) hs).squeeze S512x2048 squeezes_S1x512x2048_S512x2048 = wSlot 7 := wSlot_congr (by decide) _ _
@[sl_canon] theorem wSlotL8 (hh hs) : (wB.slice (Rect.unit (s := S12x512x2048) ![8, 0, 0] S1x512x2048.size hh) hs).squeeze S512x2048 squeezes_S1x512x2048_S512x2048 = wSlot 8 := wSlot_congr (by decide) _ _
@[sl_canon] theorem wSlotL9 (hh hs) : (wB.slice (Rect.unit (s := S12x512x2048) ![9, 0, 0] S1x512x2048.size hh) hs).squeeze S512x2048 squeezes_S1x512x2048_S512x2048 = wSlot 9 := wSlot_congr (by decide) _ _
@[sl_canon] theorem wSlotL10 (hh hs) : (wB.slice (Rect.unit (s := S12x512x2048) ![10, 0, 0] S1x512x2048.size hh) hs).squeeze S512x2048 squeezes_S1x512x2048_S512x2048 = wSlot 10 := wSlot_congr (by decide) _ _
@[sl_canon] theorem wSlotL11 (hh hs) : (wB.slice (Rect.unit (s := S12x512x2048) ![11, 0, 0] S1x512x2048.size hh) hs).squeeze S512x2048 squeezes_S1x512x2048_S512x2048 = wSlot 11 := wSlot_congr (by decide) _ _

end Cert.KernelIdeal.Hand

end
-- ==== Proof.Ideal.Spec.lean ====
/- What the kernel computes, layer by layer, as functions of the seven arguments it is launched on. Every function is
   the program's own chain of operations (the payloads of its stores) over the values its loads read. -/
module

public import proofs.«01_k».proof.Proof.Ideal.Names
public import Idealize.ShloMosaic.Lib.ValueIdxCore

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The seven arguments of the call. -/
structure In (F : FTy → Type) where
  X : Vec F S24x2048 .bf16
  SC : Vec F S5x2x24x2048 .fp8e4m3
  SS : Vec F S5x2x24 .f32
  W : Vec F S5x3x2048x2048 .fp8e4m3
  WS : Vec F S5x2048 .f32
  Bi : Vec F S5x2048 .f32
  POS : Vec F S1x24 .i32

theorem inbSS (l : Fin 5) (s : Fin 2) : ∀ a, (![l.val, s.val, 0] : Fin 3 → Nat) a + S1x1x24.size a ≤ S5x2x24.size a := by revert l s; decide
theorem inbSC (l : Fin 5) (s : Fin 2) : ∀ a, (![l.val, s.val, 0, 0] : Fin 4 → Nat) a + S1x1x24x2048.size a ≤ S5x2x24x2048.size a := by revert l s; decide
theorem inbR (l : Fin 5) : ∀ a, (![l.val, 0] : Fin 2 → Nat) a + S1x2048.size a ≤ S5x2048.size a := by revert l; decide
theorem inbL (j : Fin 12) : ∀ a, (![j.val / 4, 0, 512 * (j.val % 4)] : Fin 3 → Nat) a + S1x24x512.size a ≤ S3x24x2048.size a := by revert j; decide
theorem inbP : ∀ a, (![0, 0] : Fin 2 → Nat) a + S1x24.size a ≤ S1x24.size a := by decide
theorem inbX : ∀ a, (![0, 0] : Fin 2 → Nat) a + S24x2048.size a ≤ S24x2048.size a := by decide

section
variable (a : In F)
/-- One row of the state's scales, one slab of its codes; one row of the weights' scales, of the biases; the positions; the input. -/
def ssRow (l : Fin 5) (s : Fin 2) : Vec F S1x1x24 .f32 :=
  View.readAt (Elt F) ssB.view (Rect.unit (s := S5x2x24) ![l.val, s.val, 0] S1x1x24.size (inbSS l s)).toLoadRect a.SS
def scRow (l : Fin 5) (s : Fin 2) : Vec F S1x1x24x2048 .fp8e4m3 :=
  View.readAt (Elt F) scB.view (Rect.unit (s := S5x2x24x2048) ![l.val, s.val, 0, 0] S1x1x24x2048.size (inbSC l s)).toLoadRect a.SC
def wsRow (l : Fin 5) : Vec F S1x2048 .f32 :=
  View.readAt (Elt F) wsB.view (Rect.unit (s := S5x2048) ![l.val, 0] S1x2048.size (inbR l)).toLoadRect a.WS
def biRow (l : Fin 5) : Vec F S1x2048 .f32 :=
  View.readAt (Elt F) bB.view (Rect.unit (s := S5x2048) ![l.val, 0] S1x2048.size (inbR l)).toLoadRect a.Bi
def posRow : Vec F S1x24 .i32 := View.readAt (Elt F) posB.view (Rect.unit (s := S1x24) ![0, 0] S1x24.size inbP).toLoadRect a.POS
def xAll : Vec F S24x2048 .bf16 := View.readAt (Elt F) xB.view (Rect.unit (s := S24x2048) ![0, 0] S24x2048.size inbX).toLoadRect a.X
end

/-! ## The quantiser -/

/-- Row by row, the powers of two that are at most the row's scaled absolute maximum. -/
def emask (A : FVec F S24x2048 .f32) : IVec S24x256 1 :=
  have v955 : FVec F S24x2048 .f32 := absf A
  have v956 : FVec F S24 .f32 := multiReduction .maximumf [1] S24 v955 0xFF800000#32 reduces_S24x2048_S24 (.inl rfl) rfl
  have v957 : FVec F S24x1 .f32 := shapeCast S24x1 v956 shapeCasts_S24_S24x1
  have cst_861 : F .f32 := Scalar.ofBits .f32 0x3B124925#32
  have v958 : FVec F S24x1 .f32 := broadcast S24x1 cst_861
  have v959 : FVec F S24x1 .f32 := mulf v957 v958
  have v960 : IVec S24x256 32 := iota .tc S24x256 32 [1] iota_S24x256_d1_w32
  have v961 : IVec S24x256 32 := broadcast S24x256 253#32
  have v962 : IVec S24x256 32 := minsi v960 v961
  have v963 : IVec S24x256 32 := broadcast S24x256 23#32
  have v964 : IVec S24x256 32 := shli v962 v963
  have v965 : FVec F S24x256 .f32 := bitcastToFloat .f32 v964
  have v966 : IVec S24x256 32 := broadcast S24x256 0#32
  have v967 : IVec S24x256 1 := cmpi .sgt v960 v966
  have v968 : FVec F S24x256 .f32 := broadcastTo S24x256 v959 broadcasts_S24x1_S24x256
  have v969 : IVec S24x256 1 := cmpf .ole v965 v968
  have v970 : IVec S24x256 1 := andi v967 v969
  v970
def codesV (A : FVec F S24x2048 .f32) : FVec F S24x2048 .fp8e4m3 := k0_pay27 A (emask A) 1#32 0#32
def scaleV (A : FVec F S24x2048 .f32) : FVec F S24x1 .f32 := k0_pay26 (emask A) 1#32 0#32
def codesSlab (A : FVec F S24x2048 .f32) : FVec F S1x24x2048 .fp8e4m3 := k0_pay28 A (emask A) 1#32 0#32
def winV (A : FVec F S24x2048 .f32) : FVec F S1x24x2048 .bf16 := k0_pay29 A (emask A) 1#32 0#32
def scaleRow (A : FVec F S24x2048 .f32) : FVec F S1x24 .f32 := k0_pay31 (scaleV A) k0_pay30
def scaleSlab (A : FVec F S24x2048 .f32) : FVec F S1x1x24 .f32 := k0_pay32 (scaleV A) k0_pay30

/-! ## One layer -/

/-- The window's two rows of history. -/
def hist0 (a : In F) (l : Fin 5) : FVec F S1x24x2048 .bf16 :=
  k0_pay4 (k0_pay1 (F := F) (posRow a)) (k0_pay2 (ssRow a l 0) (scRow a l 0)) (ssRow a l 1) (scRow a l 1)
def hist1 (a : In F) (l : Fin 5) : FVec F S1x24x2048 .bf16 :=
  k0_pay5 (k0_pay1 (F := F) (posRow a)) (k0_pay2 (ssRow a l 0) (scRow a l 0)) (ssRow a l 1) (scRow a l 1)

/-- The window a layer multiplies: two rows of history, then the layer's own quantised row. -/
def LHS (a : In F) (l : Fin 5) (A : FVec F S24x2048 .f32) : Vec F S3x24x2048 .bf16 := fun i =>
  if (i 0).val = 0 then hist0 a l (ValueIdx.ix3 0 (i 1) (i 2))
  else if (i 0).val = 1 then hist1 a l (ValueIdx.ix3 0 (i 1) (i 2))
  else winV A (ValueIdx.ix3 0 (i 1) (i 2))

/-- The weights of a layer as its twelve chunks lie in the kernel's buffer. -/
def WBUF (a : In F) (l : Fin 5) : Vec F S12x512x2048 .fp8e4m3 := fun i =>
  a.W (ValueIdx.ix4 l (⟨(i 0).val / 4, by have : (i 0).val < 12 := (i 0).isLt; omega⟩ : Fin 3)
    (⟨512 * ((i 0).val % 4) + (i 1).val, by have : (i 1).val < 512 := (i 1).isLt; omega⟩ : Fin 2048) (i 2))

def lch (L : Vec F S3x24x2048 .bf16) (j : Fin 12) : Vec F S1x24x512 .bf16 :=
  View.readAt (Elt F) lhsB.view (Rect.unit (s := S3x24x2048) ![j.val / 4, 0, 512 * (j.val % 4)] S1x24x512.size (inbL j)).toLoadRect L
def wch (Wb : Vec F S12x512x2048 .fp8e4m3) (j : Fin 12) : Vec F S1x512x2048 .fp8e4m3 :=
  View.readAt (Elt F) wB.view (rW j).toLoadRect Wb

/-- The accumulator after a layer's twelve products. -/
def accOf (L : Vec F S3x24x2048 .bf16) (Wb : Vec F S12x512x2048 .fp8e4m3) : FVec F S24x2048 .f32 :=
  k0_pay22 (lch L 11) (wch Wb 11) <| k0_pay21 (lch L 10) (wch Wb 10) <| k0_pay20 (k0_pay19 (lch L 9) (wch Wb 9)) <|
  k0_pay18 (k0_pay17 (lch L 8)) (wch Wb 8) <| k0_pay16 (lch L 7) (wch Wb 7) <| k0_pay15 (lch L 6) (wch Wb 6) <|
  k0_pay14 (lch L 5) (wch Wb 5) <| k0_pay13 (lch L 4) (wch Wb 4) <| k0_pay12 (lch L 3) (wch Wb 3) <|
  k0_pay11 <| k0_pay10 (lch L 2) (wch Wb 2) <|
  k0_pay9 (k0_pay7 (lch L 1)) (k0_pay8 (wch Wb 1)) (constant S24x2048 .f32 0x00000000#32) <|
  k0_pay6 (lch L 0) (wch Wb 0)

/-- One layer: from the row it is given to the next layer's. -/
def stepAct (a : In F) (l : Fin 5) (A : FVec F S24x2048 .f32) : FVec F S24x2048 .f32 :=
  k0_pay23 (accOf (LHS a l A) (WBUF a l)) (wsRow a l) (biRow a l)

/-- What each layer quantises. -/
def act (a : In F) : Fin 5 → FVec F S24x2048 .f32 :=
  Fin.induction (motive := fun _ => FVec F S24x2048 .f32) (k0_pay39 (xAll a)) (fun i A => stepAct a i.castSucc A)

theorem act_lb (a : In F) (k : Trip) : act a (lb k) = stepAct a (la k) (act a (la k)) := rfl

/-! ## The five results of the call -/

def CODES (a : In F) : Vec F S5x24x2048 .fp8e4m3 := fun i => codesSlab (act a (i 0)) (ValueIdx.ix3 0 (i 1) (i 2))
def SCALES (a : In F) : Vec F S5x1x24 .f32 := fun i => scaleSlab (act a (i 0)) (ValueIdx.ix3 0 0 (i 2))
def nscOf (a : In F) (l : Fin 5) (s : Fin 2) : FVec F S1x1x24x2048 .fp8e4m3 :=
  if s.val = 0 then k0_pay35 (codesV (act a l)) (posRow a) (scRow a l 0)
  else k0_pay37 (k0_pay33 (F := F) (posRow a)) (k0_pay34 (codesV (act a l))) (scRow a l 1)
def NSC (a : In F) : Vec F S5x2x24x2048 .fp8e4m3 := fun i => nscOf a (i 0) (i 1) (ValueIdx.ix4 0 0 (i 2) (i 3))
def nssOf (a : In F) (l : Fin 5) (s : Fin 2) : FVec F S1x1x24 .f32 :=
  if s.val = 0 then k0_pay36 (scaleRow (act a l)) (posRow a) 1#32 (ssRow a l 0)
  else k0_pay57 (k0_pay38 (scaleRow (act a l)) (posRow a) (ssRow a l 1))
def NSS (a : In F) : Vec F S5x2x24 .f32 := fun i => nssOf a (i 0) (i 1) (ValueIdx.ix3 0 0 (i 2))
def YV (a : In F) : Vec F S24x2048 .bf16 := k0_pay81 (accOf (LHS a 4 (act a 4)) (WBUF a 4)) (wsRow a 4) (biRow a 4)

end Cert.KernelIdeal.Hand

end
-- ==== Proof.Ideal.Contents.lean ====
/- The contents the kernel's buffers hold at the points its transfers read or deliver them, against the layer
   functions of Spec.lean. -/
module

public import proofs.«01_k».proof.Proof.Ideal.Spec
public import Idealize.ShloMosaic.Lib.WritesUnit
public import Idealize.ShloMosaic.Lib.ViewIndex

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
open ValueIdx

abbrev B (c : Dev nD) {sp : Space} {S : Shape} {e : EltTy} (M : Memref sig .tc sp S e) : Type := Buf (Elt F) (M.view.loc (c : Thread nD τ))
/-- A memref's elements, held whole. -/
abbrev at_ (c : Dev nD) {sp : Space} {S : Shape} {e : EltTy} (M : Memref sig .tc sp S e) (f : B (F := F) c M) : sProp 𝕄 :=
  M.view.loc (c : Thread nD τ) ↦[M.view.set]{fullShare} f

/-! ## Squeezed indices -/

theorem re_w3 (h : S512x2048.numel = S1x512x2048.numel) (x : S512x2048.Idx) :
    (Shape.reshapeEquiv h x : S1x512x2048.Idx) = ix3 (0 : Fin 1) (x 0) (x 1) :=
  Shape.reshapeEquiv_eq_of_rowMajor h (by
    refine (Shape.rowMajor_val_three (d := ![1, 512, 2048]) _).trans (Eq.trans ?_ (Shape.rowMajor_val_two (d := ![512, 2048]) _).symm); show (0 * 512 + (x 0).val) * 2048 + (x 1).val = (x 0).val * 2048 + (x 1).val; omega)
theorem re_w4 (h : S512x2048.numel = S1x1x512x2048.numel) (x : S512x2048.Idx) :
    (Shape.reshapeEquiv h x : S1x1x512x2048.Idx) = ix4 (0 : Fin 1) (0 : Fin 1) (x 0) (x 1) :=
  Shape.reshapeEquiv_eq_of_rowMajor h (by
    refine (Shape.rowMajor_val_four (d := ![1, 1, 512, 2048]) _).trans (Eq.trans ?_ (Shape.rowMajor_val_two (d := ![512, 2048]) _).symm); show ((0 * 1 + 0) * 512 + (x 0).val) * 2048 + (x 1).val = (x 0).val * 2048 + (x 1).val; omega)
theorem re_c (h : S24x2048.numel = S1x24x2048.numel) (x : S24x2048.Idx) :
    (Shape.reshapeEquiv h x : S1x24x2048.Idx) = ix3 (0 : Fin 1) (x 0) (x 1) :=
  Shape.reshapeEquiv_eq_of_rowMajor h (by
    refine (Shape.rowMajor_val_three (d := ![1, 24, 2048]) _).trans (Eq.trans ?_ (Shape.rowMajor_val_two (d := ![24, 2048]) _).symm); show (0 * 24 + (x 0).val) * 2048 + (x 1).val = (x 0).val * 2048 + (x 1).val; omega)
theorem re_n (h : S2x24x2048.numel = S1x2x24x2048.numel) (x : S2x24x2048.Idx) :
    (Shape.reshapeEquiv h x : S1x2x24x2048.Idx) = ix4 (0 : Fin 1) (x 0) (x 1) (x 2) :=
  Shape.reshapeEquiv_eq_of_rowMajor h (by
    refine (Shape.rowMajor_val_four (d := ![1, 2, 24, 2048]) _).trans (Eq.trans ?_ (Shape.rowMajor_val_three (d := ![2, 24, 2048]) _).symm); show ((0 * 2 + (x 0).val) * 24 + (x 1).val) * 2048 + (x 2).val = ((x 0).val * 24 + (x 1).val) * 2048 + (x 2).val; omega)

/-! ## A flight carries more -/

/-- What is kept aside of a transfer may be delivered with it. -/
theorem Flight_frame (c : Thread nD τ) (sm : SemLoc sig) (ι : Unit) (N : ℕ) (D R' : sProp 𝕄) :
    iprop(Transfers.Flight countersEmb c sm ι N D ∗ R') ⊢ Transfers.Flight countersEmb c sm ι N iprop(D ∗ R') := by
  unfold Transfers.Flight
  iintro ⟨⟨⟨%R, HR, %hcap, %hpeek⟩, Hcred⟩, HR'⟩
  isplitl [HR HR']
  · iexists iprop(R ∗ R')
    isplitl [HR HR']
    · isplitl [HR] <;> iassumption
    isplit
    · ipureintro
      intro K
      refine BIBase.Entails.trans ?_ (hcap K)
      iintro ⟨⟨HR, HR'⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HR'⟩, HK⟩
      isplitl [HR]; · iexact HR
      iintro HR
      iapply HK
      isplitl [HR] <;> iassumption
  · iexact Hcred

/-! ## The weights in flight -/

theorem wCell_lt (j : Fin 12) : j.val < sig.nDmaSem := by revert j; decide
abbrev wTok (c : Dev nD) (j : Fin 12) (f : B (F := F) c wH) : sProp 𝕄 :=
  wH.view.loc (c : Thread nD τ) ↦{Transfers.shareTokN fullShare j.val} f
/-- A chunk of a layer's weights on its way into its slot, with a read share of the weights. -/
abbrev wFlight (c : Dev nD) (j : Fin 12) (W : B (F := F) c wH) (f : B (F := F) c wB) : sProp 𝕄 :=
  Transfers.Flight countersEmb (c : Thread nD τ) (SemLoc.dma ⟨j.val, wCell_lt j⟩) () 32768
    iprop(at_ c (wSlot j) f ∗ wTok c j W)

abbrev wSrc (off : Fin 4 → Nat) (hh : ∀ a, off a + S1x1x512x2048.size a ≤ S5x3x2048x2048.size a) (hs : ∀ a, (Rect.unit (s := S5x3x2048x2048) off S1x1x512x2048.size hh).stride a = 1) : Memref sig .tc .hbm S512x2048 .fp8e4m3 :=
  (wH.slice (Rect.unit (s := S5x3x2048x2048) off S1x1x512x2048.size hh) hs).squeeze S512x2048 squeezes_S1x1x512x2048_S512x2048

theorem slot_contents (c : Dev nD) (a : In F) (l : Fin 5) (j : Fin 12) {off : Fin 4 → Nat} (hoff : off = ![l.val, j.val / 4, 512 * (j.val % 4), 0]) (hh hs)
    (f0 : B (F := F) c wB) :
    ∀ i ∈ (wSlot j).view.set, (wSlot j).view.writes (Elt F) f0 [⟨Rect.whole S512x2048, ReadAs.same.apply ((wSrc off hh hs).view.read (Elt F) a.W)⟩] i
      = WBUF a l i := by
  subst hoff
  intro i hi
  obtain ⟨x, -, rfl⟩ := Finset.mem_map.mp hi
  refine View.eq_of_read_eq ?_
  refine (congrFun (View.read_writes_whole (wSlot j).view f0 _) x).trans ?_
  show a.W ((wSrc _ hh hs).view.emb x) = WBUF a l ((wSlot j).view.emb x)
  have e1 : (wSrc _ hh hs).view.emb x = (Rect.unit (s := S5x3x2048x2048) _ S1x1x512x2048.size hh).emb (ix4 (0 : Fin 1) (0 : Fin 1) (x 0) (x 1)) :=
    congrArg (Rect.unit (s := S5x3x2048x2048) _ S1x1x512x2048.size hh).emb (re_w4 _ x)
  have e2 : (wSlot j).view.emb x = (rW j).emb (ix3 (0 : Fin 1) (x 0) (x 1)) := congrArg (rW j).emb (re_w3 _ x)
  rw [e1, e2]
  unfold WBUF
  refine congrArg a.W (funext fun d => Fin.ext ?_)
  match d with
  | ⟨0, _⟩ => show l.val + 1 * 0 = l.val; omega
  | ⟨1, _⟩ => show j.val / 4 + 1 * 0 = (j.val + 1 * 0) / 4; omega
  | ⟨2, _⟩ => show 512 * (j.val % 4) + 1 * (x 0).val = 512 * ((j.val + 1 * 0) % 4) + (0 + 1 * (x 0).val); omega
  | ⟨3, _⟩ => show 0 + 1 * (x 1).val = 0 + 1 * (x 1).val; rfl

/-- A chunk just started, with the rest of its read share of the weights, is the next layer's flight. -/
theorem wFlight_of (c : Dev nD) (a : In F) (l : Fin 5) (j : Fin 12) {off : Fin 4 → Nat} (hoff : off = ![l.val, j.val / 4, 512 * (j.val % 4), 0]) (hh hs)
    (f0 : B (F := F) c wB) :
    iprop(Transfers.Flight countersEmb (c : Thread nD τ) (SemLoc.dma ⟨j.val, wCell_lt j⟩) () 32768
        iprop(((wSlot j).view.loc (c : Thread nD τ) ↦[(wSlot j).view.set]{fullShare}
            (wSlot j).view.writes (Elt F) f0 [⟨Rect.whole S512x2048, ReadAs.same.apply ((wSrc off hh hs).view.read (Elt F) a.W)⟩])
          ∗ (wH.view.loc (c : Thread nD τ) ↦[(wSrc off hh hs).view.set]{Transfers.shareTokN fullShare j.val} (a.W : B (F := F) c wH)))
      ∗ (wH.view.loc (c : Thread nD τ) ↦[Finset.univ \ (wSrc off hh hs).view.set]{Transfers.shareTokN fullShare j.val} (a.W : B (F := F) c wH)))
    ⊢ wFlight c j (a.W : B (F := F) c wH) (WBUF a l) := by
  refine BIBase.Entails.trans (Flight_frame _ _ _ _ _ _) (Transfers.Flight_mono countersEmb (c : Thread nD τ) ?_)
  iintro ⟨⟨Hd, Hs⟩, Hr⟩
  isplitl [Hd]
  · iapply (BIBase.Entails.of_eq (pointsTo_congr (slot_contents c a l j hoff hh hs f0)))
    iexact Hd
  · iapply (pointsTo_split_subset (Finset.subset_univ (wSrc off hh hs).view.set)).2
    isplitl [Hs] <;> iassumption

end Cert.KernelIdeal.Hand

end
-- ==== Proof.Ideal.Cover.lean ====
module

public import proofs.«01_k».proof.Proof.Ideal.Contents
public import Idealize.ShloMosaic.Lib.Pipeline.FrameBody

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open ValueIdx

variable (a : In F)

/-! ## A list of stores read at an index -/

theorem fC {f : codesB.view.ty.Contents (Elt F)} {i : S5x24x2048.Idx} {x : Elt F .fp8e4m3} (h : View.read (Elt F) codesB.view f i = x) : (f : Vec F S5x24x2048 .fp8e4m3) i = x := h
theorem fN {f : nscB.view.ty.Contents (Elt F)} {i : S5x2x24x2048.Idx} {x : Elt F .fp8e4m3} (h : View.read (Elt F) nscB.view f i = x) : (f : Vec F S5x2x24x2048 .fp8e4m3) i = x := h
theorem fS {f : scalesB.view.ty.Contents (Elt F)} {i : S5x1x24.Idx} {x : Elt F .f32} (h : View.read (Elt F) scalesB.view f i = x) : (f : Vec F S5x1x24 .f32) i = x := h
theorem fT {f : nssB.view.ty.Contents (Elt F)} {i : S5x2x24.Idx} {x : Elt F .f32} (h : View.read (Elt F) nssB.view f i = x) : (f : Vec F S5x2x24 .f32) i = x := h
theorem fL {f : lhsB.view.ty.Contents (Elt F)} {i : S3x24x2048.Idx} {x : Elt F .bf16} (h : View.read (Elt F) lhsB.view f i = x) : (f : Vec F S3x24x2048 .bf16) i = x := h

theorem hit3 {sp : Space} {e : EltTy} {d : Fin 3 → ℕ} (v : View sig .tc sp ⟨3, d⟩ e) (f : v.ty.Contents (Elt F)) {off : Fin 3 → ℕ} (d' : Fin 3 → ℕ) {o0 o1 o2 : ℕ}
    (inb : ∀ a, off a + d' a ≤ d a) (w : (⟨3, d'⟩ : Shape).Idx → Elt F e) (L : List (View.Piece (Elt F) ⟨3, d⟩ e)) (y : (⟨3, d⟩ : Shape).Idx) (x : (⟨3, d'⟩ : Shape).Idx)
    (hoff : off = ![o0, o1, o2]) (h0 : (y 0).val = o0 + (x 0).val) (h1 : (y 1).val = o1 + (x 1).val) (h2 : (y 2).val = o2 + (x 2).val) :
    v.read (Elt F) (v.writes (Elt F) f (⟨Rect.unit (s := ⟨3, d⟩) off d' inb, w⟩ :: L)) y = w x :=
  View.read_writes_cons_unit_of_mem v f inb w L y x hoff fun a => match a with
    | ⟨0, _⟩ => h0 | ⟨1, _⟩ => h1 | ⟨2, _⟩ => h2
theorem hit4 {sp : Space} {e : EltTy} {d : Fin 4 → ℕ} (v : View sig .tc sp ⟨4, d⟩ e) (f : v.ty.Contents (Elt F)) {off : Fin 4 → ℕ} (d' : Fin 4 → ℕ) {o0 o1 o2 o3 : ℕ}
    (inb : ∀ a, off a + d' a ≤ d a) (w : (⟨4, d'⟩ : Shape).Idx → Elt F e) (L : List (View.Piece (Elt F) ⟨4, d⟩ e)) (y : (⟨4, d⟩ : Shape).Idx) (x : (⟨4, d'⟩ : Shape).Idx)
    (hoff : off = ![o0, o1, o2, o3]) (h0 : (y 0).val = o0 + (x 0).val) (h1 : (y 1).val = o1 + (x 1).val) (h2 : (y 2).val = o2 + (x 2).val) (h3 : (y 3).val = o3 + (x 3).val) :
    v.read (Elt F) (v.writes (Elt F) f (⟨Rect.unit (s := ⟨4, d⟩) off d' inb, w⟩ :: L)) y = w x :=
  View.read_writes_cons_unit_of_mem v f inb w L y x hoff fun a => match a with
    | ⟨0, _⟩ => h0 | ⟨1, _⟩ => h1 | ⟨2, _⟩ => h2 | ⟨3, _⟩ => h3

theorem two_cases (n : ℕ) (h : n < 2) : n = 0 ∨ n = 1 := by omega

/-! ## The slabs of the codes -/

theorem cSlab_mem (l : Fin 5) (i : S5x24x2048.Idx) (hi : i ∈ (cSlab l).view.set) : i 0 = l := by
  obtain ⟨x, -, hx⟩ := Finset.mem_map.mp hi
  have e : (rC l).emb (ix3 (0 : Fin 1) (x 0) (x 1)) = i := (congrArg (rC l).emb (re_c _ x)).symm.trans hx
  rw [← e]; refine Fin.ext ?_; show l.val + 1 * 0 = l.val; omega
theorem nSlab_mem (l : Fin 5) (i : S5x2x24x2048.Idx) (hi : i ∈ (nSlab l).view.set) : i 0 = l := by
  obtain ⟨x, -, hx⟩ := Finset.mem_map.mp hi
  have e : (rN l).emb (ix4 (0 : Fin 1) (x 0) (x 1) (x 2)) = i := (congrArg (rN l).emb (re_n _ x)).symm.trans hx
  rw [← e]; refine Fin.ext ?_; show l.val + 1 * 0 = l.val; omega

theorem codes_at (l : Fin 5) {off : Fin 3 → Nat} (hoff : off = ![l.val, 0, 0]) (inb)
    (f : codesB.view.ty.Contents (Elt F)) (w : Vec F S1x24x2048 .fp8e4m3) (hw : w = codesSlab (act a l)) (i : S5x24x2048.Idx) (h0 : i 0 = l) :
    View.read (Elt F) codesB.view (codesB.view.writes (Elt F) f [⟨Rect.unit (s := S5x24x2048) off S1x24x2048.size inb, w⟩]) i = CODES a i := by
  subst hw
  refine (hit3 codesB.view f ![1, 24, 2048] inb _ [] i (ix3 (0 : Fin 1) (i 1) (i 2)) hoff ?_ ?_ ?_).trans ?_
  · rw [h0]; rfl
  · exact (Nat.zero_add _).symm
  · exact (Nat.zero_add _).symm
  · unfold CODES; rw [h0]

theorem codes_contents (l : Fin 5) {off : Fin 3 → Nat} (hoff : off = ![l.val, 0, 0]) (inb)
    (f : codesB.view.ty.Contents (Elt F)) (w : Vec F S1x24x2048 .fp8e4m3) (hw : w = codesSlab (act a l)) (i : S5x24x2048.Idx) (hi : i ∈ (cSlab l).view.set) :
    (codesB.view.writes (Elt F) f [⟨Rect.unit (s := S5x24x2048) off S1x24x2048.size inb, w⟩] : Vec F S5x24x2048 .fp8e4m3) i = CODES a i :=
  fC (codes_at a l hoff inb f w hw i (cSlab_mem l i hi))

theorem nsc_at (l : Fin 5) {off off' : Fin 4 → Nat} (hoff : off = ![l.val, 0, 0, 0]) (hoff' : off' = ![l.val, 1, 0, 0]) (inb inb')
    (f : nscB.view.ty.Contents (Elt F)) (w w' : Vec F S1x1x24x2048 .fp8e4m3) (hw : w = nscOf a l 0) (hw' : w' = nscOf a l 1) (i : S5x2x24x2048.Idx) (h0 : i 0 = l) :
    View.read (Elt F) nscB.view (nscB.view.writes (Elt F) f [⟨Rect.unit (s := S5x2x24x2048) off' S1x1x24x2048.size inb', w'⟩,
      ⟨Rect.unit (s := S5x2x24x2048) off S1x1x24x2048.size inb, w⟩]) i = NSC a i := by
  subst hw hw'
  rcases two_cases (i 1).val (i 1).isLt with h1 | h1
  · refine (View.read_writes_cons_unit_of_not_mem nscB.view f inb' _ _ i hoff' 1 (.inl ?_)).trans ?_
    · rw [h1]; exact Nat.zero_lt_one
    refine (hit4 nscB.view f ![1, 1, 24, 2048] inb _ [] i (ix4 (0 : Fin 1) (0 : Fin 1) (i 2) (i 3)) hoff ?_ ?_ ?_ ?_).trans ?_
    · rw [h0]; rfl
    · exact h1
    · exact (Nat.zero_add _).symm
    · exact (Nat.zero_add _).symm
    · unfold NSC; rw [h0, show i 1 = (0 : Fin 2) from Fin.ext h1]
  · refine (hit4 nscB.view f ![1, 1, 24, 2048] inb' _ _ i (ix4 (0 : Fin 1) (0 : Fin 1) (i 2) (i 3)) hoff' ?_ ?_ ?_ ?_).trans ?_
    · rw [h0]; rfl
    · exact h1
    · exact (Nat.zero_add _).symm
    · exact (Nat.zero_add _).symm
    · unfold NSC; rw [h0, show i 1 = (1 : Fin 2) from Fin.ext h1]

theorem nsc_contents (l : Fin 5) {off off' : Fin 4 → Nat} (hoff : off = ![l.val, 0, 0, 0]) (hoff' : off' = ![l.val, 1, 0, 0]) (inb inb')
    (f : nscB.view.ty.Contents (Elt F)) (w w' : Vec F S1x1x24x2048 .fp8e4m3) (hw : w = nscOf a l 0) (hw' : w' = nscOf a l 1) (i : S5x2x24x2048.Idx) (hi : i ∈ (nSlab l).view.set) :
    (nscB.view.writes (Elt F) f [⟨Rect.unit (s := S5x2x24x2048) off' S1x1x24x2048.size inb', w'⟩,
      ⟨Rect.unit (s := S5x2x24x2048) off S1x1x24x2048.size inb, w⟩] : Vec F S5x2x24x2048 .fp8e4m3) i = NSC a i :=
  fN (nsc_at a l hoff hoff' inb inb' f w w' hw hw' i (nSlab_mem l i hi))

/-! ## The rows of the scales -/

/-- The rows up to `l` are the results'. -/
def ScOk (n : ℕ) (f : Vec F S5x1x24 .f32) : Prop := ∀ i : S5x1x24.Idx, (i 0).val < n → f i = SCALES a i
def NsOk (n : ℕ) (f : Vec F S5x2x24 .f32) : Prop := ∀ i : S5x2x24.Idx, (i 0).val < n → f i = NSS a i
/-- The window's last row is what the layer quantised. -/
def LhOk (l : Fin 5) (f : Vec F S3x24x2048 .bf16) : Prop := ∀ i : S3x24x2048.Idx, (i 0).val = 2 → f i = winV (act a l) (ix3 0 (i 1) (i 2))

theorem sc_contents (l : Fin 5) {off : Fin 3 → Nat} (hoff : off = ![l.val, 0, 0]) (inb)
    (f : scalesB.view.ty.Contents (Elt F)) (w : Vec F S1x1x24 .f32) (hw : w = scaleSlab (act a l)) (hf : ScOk a l.val f) :
    ScOk a (l.val + 1) (scalesB.view.writes (Elt F) f [⟨Rect.unit (s := S5x1x24) off S1x1x24.size inb, w⟩]) := by
  subst hw
  intro i hi
  refine fS ?_
  rcases Nat.lt_or_eq_of_le (Nat.lt_succ_iff.mp hi) with hlt | heq
  · exact (View.read_writes_cons_unit_of_not_mem scalesB.view f inb _ [] i hoff 0 (.inl hlt)).trans (hf i hlt)
  have h0 : i 0 = l := Fin.ext heq
  have h1 : (i 1).val = 0 := Nat.lt_one_iff.mp (i 1).isLt
  refine (hit3 scalesB.view f ![1, 1, 24] inb _ [] i (ix3 (0 : Fin 1) (0 : Fin 1) (i 2)) hoff ?_ ?_ ?_).trans ?_
  · rw [h0]; rfl
  · exact h1
  · exact (Nat.zero_add _).symm
  · unfold SCALES; rw [h0]

theorem nss_contents (l : Fin 5) {off off' : Fin 3 → Nat} (hoff : off = ![l.val, 0, 0]) (hoff' : off' = ![l.val, 1, 0]) (inb inb')
    (f : nssB.view.ty.Contents (Elt F)) (w w' : Vec F S1x1x24 .f32) (hw : w = nssOf a l 0) (hw' : w' = nssOf a l 1) (hf : NsOk a l.val f) :
    NsOk a (l.val + 1) (nssB.view.writes (Elt F) f [⟨Rect.unit (s := S5x2x24) off' S1x1x24.size inb', w'⟩, ⟨Rect.unit (s := S5x2x24) off S1x1x24.size inb, w⟩]) := by
  subst hw hw'
  intro i hi
  refine fT ?_
  rcases Nat.lt_or_eq_of_le (Nat.lt_succ_iff.mp hi) with hlt | heq
  · refine (View.read_writes_cons_unit_of_not_mem nssB.view f inb' _ _ i hoff' 0 (.inl hlt)).trans ?_
    exact (View.read_writes_cons_unit_of_not_mem nssB.view f inb _ [] i hoff 0 (.inl hlt)).trans (hf i hlt)
  have h0 : i 0 = l := Fin.ext heq
  rcases two_cases (i 1).val (i 1).isLt with h1 | h1
  · refine (View.read_writes_cons_unit_of_not_mem nssB.view f inb' _ _ i hoff' 1 (.inl ?_)).trans ?_
    · rw [h1]; exact Nat.zero_lt_one
    refine (hit3 nssB.view f ![1, 1, 24] inb _ [] i (ix3 (0 : Fin 1) (0 : Fin 1) (i 2)) hoff ?_ ?_ ?_).trans ?_
    · rw [h0]; rfl
    · exact h1
    · exact (Nat.zero_add _).symm
    · unfold NSS; rw [h0, show i 1 = (0 : Fin 2) from Fin.ext h1]
  · refine (hit3 nssB.view f ![1, 1, 24] inb' _ _ i (ix3 (0 : Fin 1) (0 : Fin 1) (i 2)) hoff' ?_ ?_ ?_).trans ?_
    · rw [h0]; rfl
    · exact h1
    · exact (Nat.zero_add _).symm
    · unfold NSS; rw [h0, show i 1 = (1 : Fin 2) from Fin.ext h1]

/-! ## The window -/

theorem lh_contents (l : Fin 5) (inb) (f : lhsB.view.ty.Contents (Elt F)) (w : Vec F S1x24x2048 .bf16) (hw : w = winV (act a l)) :
    LhOk a l (lhsB.view.writes (Elt F) f [⟨Rect.unit (s := S3x24x2048) ![2, 0, 0] S1x24x2048.size inb, w⟩]) := by
  subst hw
  intro i hi
  exact fL (hit3 lhsB.view f ![1, 24, 2048] inb _ [] i (ix3 (0 : Fin 1) (i 1) (i 2)) rfl hi (Nat.zero_add _).symm (Nat.zero_add _).symm)

theorem lhs_full (l : Fin 5) (inb inb') (f : lhsB.view.ty.Contents (Elt F)) (hf : LhOk a l f) (w w' : Vec F S1x24x2048 .bf16) (hw : w = hist0 a l) (hw' : w' = hist1 a l) :
    (lhsB.view.writes (Elt F) f [⟨Rect.unit (s := S3x24x2048) ![1, 0, 0] S1x24x2048.size inb', w'⟩,
      ⟨Rect.unit (s := S3x24x2048) ![0, 0, 0] S1x24x2048.size inb, w⟩] : Vec F S3x24x2048 .bf16) = LHS a l (act a l) := by
  subst hw hw'
  funext i
  have h0 : (i 0).val < 3 := (i 0).isLt
  refine fL ?_
  unfold LHS
  by_cases e1 : (i 0).val = 1
  · rw [if_neg (by omega), if_pos e1]
    exact hit3 lhsB.view f ![1, 24, 2048] inb' _ _ i (ix3 (0 : Fin 1) (i 1) (i 2)) rfl e1 (Nat.zero_add _).symm (Nat.zero_add _).symm
  refine (View.read_writes_cons_unit_of_not_mem lhsB.view f inb' _ _ i rfl 0 ?_).trans ?_
  · show (i 0).val < 1 ∨ 1 + 1 ≤ (i 0).val; omega
  by_cases e0 : (i 0).val = 0
  · rw [if_pos e0]
    exact hit3 lhsB.view f ![1, 24, 2048] inb _ _ i (ix3 (0 : Fin 1) (i 1) (i 2)) rfl e0 (Nat.zero_add _).symm (Nat.zero_add _).symm
  rw [if_neg e0, if_neg e1]
  refine (View.read_writes_cons_unit_of_not_mem lhsB.view f inb _ _ i rfl 0 ?_).trans (hf i (by omega))
  show (i 0).val < 0 ∨ 0 + 1 ≤ (i 0).val; omega

/-! ## A slab through the loop's own slice -/

abbrev slCm (k : Trip) := codesB.slice (Rect.unit (s := S5x24x2048) (k0_off36 k) S1x24x2048.size (k0_off36_inb k)) (fun _ => rfl)
abbrev slNm (k : Trip) := nscB.slice (Rect.unit (s := S5x2x24x2048) (k0_off37 k) S1x2x24x2048.size (k0_off37_inb k)) (fun _ => rfl)
theorem unit_set_congr {S : Shape} {off off' size : Fin S.rank → ℕ} (e : off = off') (h h') : (Rect.unit (s := S) off size h).set = (Rect.unit (s := S) off' size h').set := by
  subst e; rfl
theorem cSlab_set (l : Fin 5) : ((cSlab l).view.set : Finset S5x24x2048.Idx) = (rC l).set := (View.set_reshape _ _).trans (View.set_slice_whole _ _)
theorem nSlab_set (l : Fin 5) : ((nSlab l).view.set : Finset S5x2x24x2048.Idx) = (rN l).set := (View.set_reshape _ _).trans (View.set_slice_whole _ _)
theorem slC_set (k : Trip) : ((slCm k).view.set : Finset S5x24x2048.Idx) = (cSlab (lb k)).view.set :=
  (View.set_slice_whole _ _).trans ((unit_set_congr (off36_eq k) _ _).trans (cSlab_set (lb k)).symm)
theorem slN_set (k : Trip) : ((slNm k).view.set : Finset S5x2x24x2048.Idx) = (nSlab (lb k)).view.set :=
  (View.set_slice_whole _ _).trans ((unit_set_congr (off37_eq k) _ _).trans (nSlab_set (lb k)).symm)

/-! ## The program's spellings of the layer functions' parts -/

theorem lch_eq (L : Vec F S3x24x2048 .bf16) {off : Fin 3 → Nat} (j : Fin 12) (e : off = ![j.val / 4, 0, 512 * (j.val % 4)]) (h) :
    View.readAt (Elt F) lhsB.view (Rect.unit (s := S3x24x2048) off S1x24x512.size h).toLoadRect L = lch L j := by subst e; rfl
theorem wch_eq (Wb : Vec F S12x512x2048 .fp8e4m3) {off : Fin 3 → Nat} (j : Fin 12) (e : off = ![j.val, 0, 0]) (h) :
    View.readAt (Elt F) wB.view (Rect.unit (s := S12x512x2048) off S1x512x2048.size h).toLoadRect Wb = wch Wb j := by subst e; rfl
theorem pay24_eq (A : FVec F S24x2048 .f32) (w b : FVec F S1x2048 .f32) : k0_pay24 A w b = emask (k0_pay23 A w b) := rfl
theorem nscOf_zero (l : Fin 5) : nscOf a l 0 = k0_pay35 (codesV (act a l)) (posRow a) (scRow a l 0) := if_pos rfl
theorem nscOf_one (l : Fin 5) : nscOf a l 1 = k0_pay37 (k0_pay33 (F := F) (posRow a)) (k0_pay34 (codesV (act a l))) (scRow a l 1) := if_neg (by decide)
theorem nssOf_zero (l : Fin 5) : nssOf a l 0 = k0_pay36 (scaleRow (act a l)) (posRow a) 1#32 (ssRow a l 0) := if_pos rfl
theorem nssOf_one (l : Fin 5) : nssOf a l 1 = k0_pay57 (k0_pay38 (scaleRow (act a l)) (posRow a) (ssRow a l 1)) := if_neg (by decide)

/-- The accumulator read back after a layer's twelve stores into it. -/
theorem accOf_intro (L : Vec F S3x24x2048 .bf16) (Wb : Vec F S12x512x2048 .fp8e4m3) (x0 x1 x2 x3 x4 x5 x6 x7 x8 x9 x10 x11 : FVec F S24x2048 .f32)
    (h0 : x0 = k0_pay6 (lch L 0) (wch Wb 0))
    (h1 : x1 = k0_pay9 (k0_pay7 (lch L 1)) (k0_pay8 (wch Wb 1)) (constant S24x2048 .f32 0x00000000#32) x0)
    (h2 : x2 = k0_pay11 (k0_pay10 (lch L 2) (wch Wb 2) x1)) (h3 : x3 = k0_pay12 (lch L 3) (wch Wb 3) x2)
    (h4 : x4 = k0_pay13 (lch L 4) (wch Wb 4) x3) (h5 : x5 = k0_pay14 (lch L 5) (wch Wb 5) x4) (h6 : x6 = k0_pay15 (lch L 6) (wch Wb 6) x5)
    (h7 : x7 = k0_pay16 (lch L 7) (wch Wb 7) x6) (h8 : x8 = k0_pay18 (k0_pay17 (lch L 8)) (wch Wb 8) x7)
    (h9 : x9 = k0_pay20 (k0_pay19 (lch L 9) (wch Wb 9)) x8) (h10 : x10 = k0_pay21 (lch L 10) (wch Wb 10) x9)
    (h11 : x11 = k0_pay22 (lch L 11) (wch Wb 11) x10) : x11 = accOf L Wb := by
  subst h0 h1 h2 h3 h4 h5 h6 h7 h8 h9 h10 h11; rfl

end Cert.KernelIdeal.Hand

end
-- ==== Proof.Ideal.Trip.lean ====
module

public import proofs.«01_k».proof.Proof.Ideal.Cover

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
abbrev 𝒱₀ : Variants := Variants.none

theorem at_st (c : Dev nD) {sp : Space} {S : Shape} {e : EltTy} (M : Memref sig .tc sp S e) (f : B (F := F) c M) : Storable (upEmb : UEmb _ 𝕄) (at_ c M f) := inferInstance

/-- A layer's codes as the two transfers of its results deliver them: the array's slab, and the buffer's slab back. -/
def dC (c : Dev nD) (CB : B (F := F) c codesB) (f : B (F := F) c codesH) (l : Fin 5) : sProp 𝕄 :=
  iprop(at_ c (cOut l) ((cOut l).view.writes (Elt F) f [⟨Rect.whole S24x2048, ReadAs.same.apply ((cSlab l).view.read (Elt F) CB)⟩]) ∗ at_ c (cSlab l) CB)
def dN (c : Dev nD) (NB : B (F := F) c nscB) (f : B (F := F) c nscH) (l : Fin 5) : sProp 𝕄 :=
  iprop(at_ c (nOut l) ((nOut l).view.writes (Elt F) f [⟨Rect.whole S2x24x2048, ReadAs.same.apply ((nSlab l).view.read (Elt F) NB)⟩]) ∗ at_ c (nSlab l) NB)
instance (c : Dev nD) (CB : B (F := F) c codesB) (f : B (F := F) c codesH) (l : Fin 5) : Storable (upEmb : UEmb _ 𝕄) (dC c CB f l) := by
  unfold dC; haveI := at_st c (cOut l) ((cOut l).view.writes (Elt F) f [⟨Rect.whole S24x2048, ReadAs.same.apply ((cSlab l).view.read (Elt F) CB)⟩]); haveI := at_st c (cSlab l) CB; exact Storable.sep _ _ _
instance (c : Dev nD) (NB : B (F := F) c nscB) (f : B (F := F) c nscH) (l : Fin 5) : Storable (upEmb : UEmb _ 𝕄) (dN c NB f l) := by
  unfold dN; haveI := at_st c (nOut l) ((nOut l).view.writes (Elt F) f [⟨Rect.whole S2x24x2048, ReadAs.same.apply ((nSlab l).view.read (Elt F) NB)⟩]); haveI := at_st c (nSlab l) NB; exact Storable.sep _ _ _

/-- A layer's slabs before its results are quantised. -/
def slabs (c : Dev nD) (g8 : B (F := F) c codesH) (g10 : B (F := F) c nscH) (l : Fin 5) : sProp 𝕄 :=
  iprop((∃ f, at_ c (cSlab l) f) ∗ (∃ f, at_ c (nSlab l) f) ∗ at_ c (cOut l) g8 ∗ at_ c (nOut l) g10)
def later (n : ℕ) : Finset (Fin 5) := Finset.univ.filter (n < ·.val)
theorem later_insert : ∀ k : Trip, later k.val = insert (lb k) (later (k.val + 1)) := by decide
theorem later_not_mem : ∀ k : Trip, lb k ∉ later (k.val + 1) := by decide
theorem later_take (c : Dev nD) (g8 : B (F := F) c codesH) (g10 : B (F := F) c nscH) (k : Trip) :
    bigSep (later k.val) (slabs c g8 g10) = iprop(slabs c g8 g10 (lb k) ∗ bigSep (later (k.val + 1)) (slabs c g8 g10)) := by
  rw [later_insert k]; exact BI.bigSep_insert (later_not_mem k)

def wAll (c : Dev nD) (W : B (F := F) c wH) (WB : B (F := F) c wB) : sProp 𝕄 :=
  iprop(wFlight c 0 W WB ∗ wFlight c 1 W WB ∗ wFlight c 2 W WB ∗ wFlight c 3 W WB ∗ wFlight c 4 W WB ∗ wFlight c 5 W WB
    ∗ wFlight c 6 W WB ∗ wFlight c 7 W WB ∗ wFlight c 8 W WB ∗ wFlight c 9 W WB ∗ wFlight c 10 W WB ∗ wFlight c 11 W WB)

def lay (n : ℕ) : Fin 5 := ⟨n % 5, Nat.mod_lt _ (by decide)⟩
theorem lay_la : ∀ k : Trip, lay k.val = la k := by decide
theorem lay_lb : ∀ k : Trip, lay (k.val + 1) = lb k := by decide

/-- Before layer `n`: its row in the window, its weights on their way, the layers up to it quantised and on their way out. -/
def invAt (a : In F) (c : Dev nD) (g8 : B (F := F) c codesH) (g10 : B (F := F) c nscH) (n : ℕ) : sProp 𝕄 :=
  iprop(at_ c scB a.SC ∗ at_ c ssB a.SS ∗ at_ c wsB a.WS ∗ at_ c bB a.Bi ∗ at_ c posB a.POS
    ∗ (∃ f, ⌜LhOk a (lay n) f⌝ ∗ at_ c lhsB f) ∗ (∃ f, at_ c accB f)
    ∗ (∃ f, ⌜ScOk a (n + 1) f⌝ ∗ at_ c scalesB f) ∗ (∃ f, ⌜NsOk a (n + 1) f⌝ ∗ at_ c nssB f)
    ∗ bigSep (later n) (slabs c g8 g10)
    ∗ Transfers.Batch countersEmb (c : Thread nD τ) (SemLoc.dma 18) () 2048 (dC c (CODES a) g8) (n + 1) 0
    ∗ Transfers.Batch countersEmb (c : Thread nD τ) (SemLoc.dma 19) () 4096 (dN c (NSC a) g10) (n + 1) 0
    ∗ wAll c a.W (WBUF a (lay n))
    ∗ (∃ Wt, owes (c : Thread nD τ) 0 Wt))

theorem woff0 : ∀ k : Trip, k0_off6 k = ![(lb k).val, (0 : Fin 12).val / 4, 512 * ((0 : Fin 12).val % 4), 0] := by decide
theorem woff1 : ∀ k : Trip, k0_off8 k = ![(lb k).val, (1 : Fin 12).val / 4, 512 * ((1 : Fin 12).val % 4), 0] := by decide
theorem woff2 : ∀ k : Trip, k0_off10 k = ![(lb k).val, (2 : Fin 12).val / 4, 512 * ((2 : Fin 12).val % 4), 0] := by decide
theorem woff3 : ∀ k : Trip, k0_off12 k = ![(lb k).val, (3 : Fin 12).val / 4, 512 * ((3 : Fin 12).val % 4), 0] := by decide
theorem woff4 : ∀ k : Trip, k0_off14 k = ![(lb k).val, (4 : Fin 12).val / 4, 512 * ((4 : Fin 12).val % 4), 0] := by decide
theorem woff5 : ∀ k : Trip, k0_off16 k = ![(lb k).val, (5 : Fin 12).val / 4, 512 * ((5 : Fin 12).val % 4), 0] := by decide
theorem woff6 : ∀ k : Trip, k0_off18 k = ![(lb k).val, (6 : Fin 12).val / 4, 512 * ((6 : Fin 12).val % 4), 0] := by decide
theorem woff7 : ∀ k : Trip, k0_off20 k = ![(lb k).val, (7 : Fin 12).val / 4, 512 * ((7 : Fin 12).val % 4), 0] := by decide
theorem woff8 : ∀ k : Trip, k0_off22 k = ![(lb k).val, (8 : Fin 12).val / 4, 512 * ((8 : Fin 12).val % 4), 0] := by decide
theorem woff9 : ∀ k : Trip, k0_off24 k = ![(lb k).val, (9 : Fin 12).val / 4, 512 * ((9 : Fin 12).val % 4), 0] := by decide
theorem woff10 : ∀ k : Trip, k0_off26 k = ![(lb k).val, (10 : Fin 12).val / 4, 512 * ((10 : Fin 12).val % 4), 0] := by decide
theorem woff11 : ∀ k : Trip, k0_off28 k = ![(lb k).val, (11 : Fin 12).val / 4, 512 * ((11 : Fin 12).val % 4), 0] := by decide

theorem slC_of (c : Dev nD) (k : Trip) (f : B (F := F) c codesB) : at_ c (cSlab (lb k)) f ⊢ at_ c (slCm k) f :=
  BIBase.Entails.of_eq (congrArg (fun S : Finset S5x24x2048.Idx => (codesB.view.loc (c : Thread nD τ) ↦[S]{fullShare} f : sProp 𝕄)) (slC_set k).symm)
theorem slN_of (c : Dev nD) (k : Trip) (f : B (F := F) c nscB) : at_ c (nSlab (lb k)) f ⊢ at_ c (slNm k) f :=
  BIBase.Entails.of_eq (congrArg (fun S : Finset S5x2x24x2048.Idx => (nscB.view.loc (c : Thread nD τ) ↦[S]{fullShare} f : sProp 𝕄)) (slN_set k).symm)

theorem slC_to (c : Dev nD) (k : Trip) (f g : B (F := F) c codesB) (h : ∀ i : S5x24x2048.Idx, i ∈ (cSlab (lb k)).view.set → f i = g i) :
    at_ c (slCm k) f ⊢ at_ c (cSlab (lb k)) g :=
  (BIBase.Entails.of_eq (congrArg (fun S : Finset S5x24x2048.Idx => (codesB.view.loc (c : Thread nD τ) ↦[S]{fullShare} f : sProp 𝕄)) (slC_set k))).trans
    (BIBase.Entails.of_eq (pointsTo_congr h))
theorem slN_to (c : Dev nD) (k : Trip) (f g : B (F := F) c nscB) (h : ∀ i : S5x2x24x2048.Idx, i ∈ (nSlab (lb k)).view.set → f i = g i) :
    at_ c (slNm k) f ⊢ at_ c (nSlab (lb k)) g :=
  (BIBase.Entails.of_eq (congrArg (fun S : Finset S5x2x24x2048.Idx => (nscB.view.loc (c : Thread nD τ) ↦[S]{fullShare} f : sProp 𝕄)) (slN_set k))).trans
    (BIBase.Entails.of_eq (pointsTo_congr h))

set_option sl_exec.closedLoads true in
theorem tripRun (a : In F) (c : Dev nD) (g8 : B (F := F) c codesH) (g10 : B (F := F) c nscH) (k : Trip)
    (v163 : FVec F S1x24 .f32) (v167 : Vec F S1x24 .i32) (v218 : IVec S1x24 32) :
    invAt a c g8 g10 k.val
      ⊢ wp frame (wpE (defs₀ (F := F)) 𝒱₀ (c : Thread nD τ) none) Set.univ
          (k0_t1_body xH (Memref.isWhole_whole _) scH (Memref.isWhole_whole _) ssH (Memref.isWhole_whole _) wH (Memref.isWhole_whole _) wsH (Memref.isWhole_whole _) bH (Memref.isWhole_whole _) posH (Memref.isWhole_whole _) yH (Memref.isWhole_whole _) codesH (Memref.isWhole_whole _) scalesH (Memref.isWhole_whole _) nscH (Memref.isWhole_whole _) nssH (Memref.isWhole_whole _) wB (Memref.isWhole_whole _) xB (Memref.isWhole_whole _) scB (Memref.isWhole_whole _) ssB (Memref.isWhole_whole _) wsB (Memref.isWhole_whole _) bB (Memref.isWhole_whole _) posB (Memref.isWhole_whole _) lhsB (Memref.isWhole_whole _) accB (Memref.isWhole_whole _) yB (Memref.isWhole_whole _) codesB (Memref.isWhole_whole _) scalesB (Memref.isWhole_whole _) nscB (Memref.isWhole_whole _) nssB (Memref.isWhole_whole _) cc0_scratch14 cc0_scratch15 cc0_scratch16 v163 v167 v218 k ())
          (fun _ => invAt a c g8 g10 (k.val + 1)) := by
  unfold invAt wAll
  rw [later_take, lay_la, lay_lb]
  unfold slabs
  iintro ⟨H14, H15, H16, H17, H18, ⟨%f19, %h19, H19⟩, ⟨%f20, H20⟩, ⟨%f23, %h23, H23⟩, ⟨%f25, %h25, H25⟩, ⟨⟨⟨%f22, H22⟩, ⟨%f24, H24⟩, H8, H10⟩, Hrest⟩, HB0, HB1, ⟨F0, F1, F2, F3, F4, F5, F6, F7, F8, F9, F10, F11⟩, ⟨%Wt, HW⟩⟩
  sl_unfold [k0_t1_body]
  set_option sl_exec.stopBefore "k0_part3" in sl_exec
  ihave H19 := (BIBase.Entails.of_eq (congrArg (at_ c lhsB) (lhs_full a (la k) _ _ f19 h19 _ _ rfl rfl))) $$ [H19]
  · iexact H19
  ihave H22 := (slC_of c k f22) $$ [H22]
  · iexact H22
  ihave H24 := (slN_of c k f24) $$ [H24]
  · iexact H24
  sl_exec
  have e34 : tripRun.sl.v934 a k = accOf (LHS a (la k) (act a (la k))) (WBUF a (la k)) :=
    accOf_intro _ _ (tripRun.sl.v692 a k) (tripRun.sl.v715 a k) (tripRun.sl.v738 a k) (tripRun.sl.v761 a k) (tripRun.sl.v784 a k) (tripRun.sl.v807 a k)
      (tripRun.sl.v830 a k) (tripRun.sl.v853 a k) (tripRun.sl.v876 a k) (tripRun.sl.v899 a k) (tripRun.sl.v922 a k) (tripRun.sl.v934 a k)
      (View.readCov_cons_toLoadRect _ _ _ _) (View.readCov_cons_toLoadRect _ _ _ _) (View.readCov_cons_toLoadRect _ _ _ _) (View.readCov_cons_toLoadRect _ _ _ _)
      (View.readCov_cons_toLoadRect _ _ _ _) (View.readCov_cons_toLoadRect _ _ _ _) (View.readCov_cons_toLoadRect _ _ _ _) (View.readCov_cons_toLoadRect _ _ _ _)
      (View.readCov_cons_toLoadRect _ _ _ _) (View.readCov_cons_toLoadRect _ _ _ _) (View.readCov_cons_toLoadRect _ _ _ _) (View.readCov_cons_toLoadRect _ _ _ _)
  have e8 : tripRun.sl.r_8 a k = act a (lb k) := (congrArg (fun A => k0_pay23 A (wsRow a (la k)) (biRow a (la k))) e34).trans (act_lb a k).symm
  have e9 : tripRun.sl.r_9 a k = emask (act a (lb k)) :=
    (congrArg (fun A => k0_pay24 A (wsRow a (la k)) (biRow a (la k))) e34).trans ((pay24_eq _ _ _).trans (congrArg emask (act_lb a k).symm))
  have e10 : tripRun.sl.r_10 a k = scaleV (act a (lb k)) := congrArg (fun A => k0_pay26 A 1#32 0#32) e9
  have e11 : tripRun.sl.r_11 a k = codesV (act a (lb k)) := congrArg₂ (fun A E => k0_pay27 A E 1#32 0#32) e8 e9
  have e12 : tripRun.sl.r_12 a k = scaleRow (act a (lb k)) := congrArg (fun A => k0_pay31 A k0_pay30) e10
  ihave H22 := (slC_to c k (tripRun.sl.H22_w1 a c k f22) (CODES a) (codes_contents a (lb k) (off30_eq k) (k0_off30_inb k) f22 (k0_pay28 (tripRun.sl.r_8 a k) (tripRun.sl.r_9 a k) 1#32 0#32)
    (congrArg₂ (fun A E => k0_pay28 A E 1#32 0#32) e8 e9))) $$ [H22]
  · iexact H22
  ihave H24 := (slN_to c k (tripRun.sl.H24_w3 a c k f24) (NSC a) (nsc_contents a (lb k) (off32_eq k) (off34_eq k) (k0_off32_inb k) (k0_off34_inb k) f24 _ _
    ((congrArg (fun C => k0_pay35 C (posRow a) (scRow a (lb k) 0)) e11).trans (nscOf_zero a (lb k)).symm)
    ((congrArg (fun C => k0_pay37 (k0_pay33 (F := F) (posRow a)) (k0_pay34 C) (scRow a (lb k) 1)) e11).trans (nscOf_one a (lb k)).symm))) $$ [H24]
  · iexact H24
  sl_exec
  ihave F0 := (wFlight_of c a (lb k) 0 (woff0 k) (k0_off6_inb k) (fun _ => rfl) (WBUF a (la k))) $$ [F0 F0_src]
  · isplitl [F0]; · iexact F0
    iexact F0_src
  ihave F1 := (wFlight_of c a (lb k) 1 (woff1 k) (k0_off8_inb k) (fun _ => rfl) (WBUF a (la k))) $$ [F1 F1_src]
  · isplitl [F1]; · iexact F1
    iexact F1_src
  ihave F2 := (wFlight_of c a (lb k) 2 (woff2 k) (k0_off10_inb k) (fun _ => rfl) (WBUF a (la k))) $$ [F2 F2_src]
  · isplitl [F2]; · iexact F2
    iexact F2_src
  ihave F3 := (wFlight_of c a (lb k) 3 (woff3 k) (k0_off12_inb k) (fun _ => rfl) (WBUF a (la k))) $$ [F3 F3_src]
  · isplitl [F3]; · iexact F3
    iexact F3_src
  ihave F4 := (wFlight_of c a (lb k) 4 (woff4 k) (k0_off14_inb k) (fun _ => rfl) (WBUF a (la k))) $$ [F4 F4_src]
  · isplitl [F4]; · iexact F4
    iexact F4_src
  ihave F5 := (wFlight_of c a (lb k) 5 (woff5 k) (k0_off16_inb k) (fun _ => rfl) (WBUF a (la k))) $$ [F5 F5_src]
  · isplitl [F5]; · iexact F5
    iexact F5_src
  ihave F6 := (wFlight_of c a (lb k) 6 (woff6 k) (k0_off18_inb k) (fun _ => rfl) (WBUF a (la k))) $$ [F6 F6_src]
  · isplitl [F6]; · iexact F6
    iexact F6_src
  ihave F7 := (wFlight_of c a (lb k) 7 (woff7 k) (k0_off20_inb k) (fun _ => rfl) (WBUF a (la k))) $$ [F7 F7_src]
  · isplitl [F7]; · iexact F7
    iexact F7_src
  ihave F8 := (wFlight_of c a (lb k) 8 (woff8 k) (k0_off22_inb k) (fun _ => rfl) (WBUF a (la k))) $$ [F8 F8_src]
  · isplitl [F8]; · iexact F8
    iexact F8_src
  ihave F9 := (wFlight_of c a (lb k) 9 (woff9 k) (k0_off24_inb k) (fun _ => rfl) (WBUF a (la k))) $$ [F9 F9_src]
  · isplitl [F9]; · iexact F9
    iexact F9_src
  ihave F10 := (wFlight_of c a (lb k) 10 (woff10 k) (k0_off26_inb k) (fun _ => rfl) (WBUF a (la k))) $$ [F10 F10_src]
  · isplitl [F10]; · iexact F10
    iexact F10_src
  ihave F11 := (wFlight_of c a (lb k) 11 (woff11 k) (k0_off28_inb k) (fun _ => rfl) (WBUF a (la k))) $$ [F11 F11_src]
  · isplitl [F11]; · iexact F11
    iexact F11_src
  sl_step
  isplitl [H14]; · iexact H14
  isplitl [H15]; · iexact H15
  isplitl [H16]; · iexact H16
  isplitl [H17]; · iexact H17
  isplitl [H18]; · iexact H18
  isplitl [H19]
  · iexists _
    isplitr
    · ipureintro
      exact lh_contents a (lb k) inb_S3x24x2048_S1x24x2048_2_0_0 (LHS a (la k) (act a (la k))) (k0_pay29 (tripRun.sl.r_8 a k) (tripRun.sl.r_9 a k) 1#32 0#32)
        (congrArg₂ (fun A E => k0_pay29 A E 1#32 0#32) e8 e9)
    iexact H19
  isplitl [H20]; · iexists _; iexact H20
  isplitl [H23]
  · iexists _
    isplitr
    · ipureintro
      exact sc_contents a (lb k) (off31_eq k) (k0_off31_inb k) f23 (k0_pay32 (tripRun.sl.r_10 a k) k0_pay30) (congrArg (fun A => k0_pay32 A k0_pay30) e10) h23
    iexact H23
  isplitl [H25]
  · iexists _
    isplitr
    · ipureintro
      exact nss_contents a (lb k) (off33_eq k) (off35_eq k) (k0_off33_inb k) (k0_off35_inb k) f25 _ _
        ((congrArg (fun C => k0_pay36 C (posRow a) 1#32 (ssRow a (lb k) 0)) e12).trans (nssOf_zero a (lb k)).symm)
        ((congrArg (fun C => k0_pay57 (k0_pay38 C (posRow a) (ssRow a (lb k) 1))) e12).trans (nssOf_one a (lb k)).symm) h25
    iexact H25
  isplitl [Hrest]; · iexact Hrest
  isplitl [HB0]; · iexact HB0
  isplitl [HB1]; · iexact HB1
  isplitl [F0 F1 F2 F3 F4 F5 F6 F7 F8 F9 F10 F11]
  · isplitl [F0]; · iexact F0
    isplitl [F1]; · iexact F1
    isplitl [F2]; · iexact F2
    isplitl [F3]; · iexact F3
    isplitl [F4]; · iexact F4
    isplitl [F5]; · iexact F5
    isplitl [F6]; · iexact F6
    isplitl [F7]; · iexact F7
    isplitl [F8]; · iexact F8
    isplitl [F9]; · iexact F9
    isplitl [F10]; · iexact F10
    iexact F11
  iexists _; iexact HW

/-- The invariant, kept whole. -/
@[irreducible] def invH (a : In F) (c : Dev nD) (g8 : B (F := F) c codesH) (g10 : B (F := F) c nscH) (n : ℕ) : sProp 𝕄 := invAt a c g8 g10 n
theorem invH_eq (a : In F) (c : Dev nD) (g8 : B (F := F) c codesH) (g10 : B (F := F) c nscH) (n : ℕ) : invH a c g8 g10 n = invAt a c g8 g10 n := by
  unfold invH; rfl

set_option warn.classDefReducibility false in
/-- The loop over the layers. -/
@[sl_loop] def loopInv (a : In F) (c : Dev nD) (g8 : B (F := F) c codesH) (g10 : B (F := F) c nscH)
    (v163 : FVec F S1x24 .f32) (v167 : Vec F S1x24 .i32) (v218 : IVec S1x24 32) :
    LoopInvTy_k0_t1 (F := F) Unit ℕ (Pipeline.UD sig nD τ) ℕ 𝒱₀ c none Set.univ xH (Memref.isWhole_whole _) scH (Memref.isWhole_whole _) ssH (Memref.isWhole_whole _) wH (Memref.isWhole_whole _) wsH (Memref.isWhole_whole _) bH (Memref.isWhole_whole _) posH (Memref.isWhole_whole _) yH (Memref.isWhole_whole _) codesH (Memref.isWhole_whole _) scalesH (Memref.isWhole_whole _) nscH (Memref.isWhole_whole _) nssH (Memref.isWhole_whole _) wB (Memref.isWhole_whole _) xB (Memref.isWhole_whole _) scB (Memref.isWhole_whole _) ssB (Memref.isWhole_whole _) wsB (Memref.isWhole_whole _) bB (Memref.isWhole_whole _) posB (Memref.isWhole_whole _) lhsB (Memref.isWhole_whole _) accB (Memref.isWhole_whole _) yB (Memref.isWhole_whole _) codesB (Memref.isWhole_whole _) scalesB (Memref.isWhole_whole _) nscB (Memref.isWhole_whole _) nssB (Memref.isWhole_whole _) cc0_scratch14 cc0_scratch15 cc0_scratch16 v163 v167 v218 where
  inv n _ := invH a c g8 g10 n
  step k _ := by
    have h := tripRun a c g8 g10 k v163 v167 v218
    rw [← invH_eq, ← invH_eq] at h
    exact h

end Cert.KernelIdeal.Hand

end
-- ==== Proof.Ideal.Slabs.lean ====
module

public import proofs.«01_k».proof.Proof.Ideal.Trip

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
open ValueIdx

/-! ## Whole buffers, block by block -/

theorem rC_mem (l : Fin 5) (i : S5x24x2048.Idx) : i ∈ (rC l).set ↔ i 0 = l := by
  rw [Rect.mem_set_unit]
  constructor
  · intro h; have := h 0; exact Fin.ext (by have h1 := this.1; have h2 := this.2; change l.val ≤ (i 0).val at h1; change (i 0).val < l.val + 1 at h2; omega)
  · rintro rfl d
    match d with
    | ⟨0, _⟩ => exact ⟨le_refl _, Nat.lt_succ_self _⟩
    | ⟨1, _⟩ => exact ⟨Nat.zero_le _, by rw [show off3 (i 0) (⟨1, _⟩ : Fin 3) = 0 from rfl, Nat.zero_add]; exact (i 1).isLt⟩
    | ⟨2, _⟩ => exact ⟨Nat.zero_le _, by rw [show off3 (i 0) (⟨2, _⟩ : Fin 3) = 0 from rfl, Nat.zero_add]; exact (i 2).isLt⟩
theorem rN_mem (l : Fin 5) (i : S5x2x24x2048.Idx) : i ∈ (rN l).set ↔ i 0 = l := by
  rw [Rect.mem_set_unit]
  constructor
  · intro h; have := h 0; exact Fin.ext (by have h1 := this.1; have h2 := this.2; change l.val ≤ (i 0).val at h1; change (i 0).val < l.val + 1 at h2; omega)
  · rintro rfl d
    match d with
    | ⟨0, _⟩ => exact ⟨le_refl _, Nat.lt_succ_self _⟩
    | ⟨1, _⟩ => exact ⟨Nat.zero_le _, by rw [show off4 (i 0) (⟨1, _⟩ : Fin 4) = 0 from rfl, Nat.zero_add]; exact (i 1).isLt⟩
    | ⟨2, _⟩ => exact ⟨Nat.zero_le _, by rw [show off4 (i 0) (⟨2, _⟩ : Fin 4) = 0 from rfl, Nat.zero_add]; exact (i 2).isLt⟩
    | ⟨3, _⟩ => exact ⟨Nat.zero_le _, by rw [show off4 (i 0) (⟨3, _⟩ : Fin 4) = 0 from rfl, Nat.zero_add]; exact (i 3).isLt⟩
theorem rW_mem (j : Fin 12) (i : S12x512x2048.Idx) : i ∈ (rW j).set ↔ i 0 = j := by
  rw [Rect.mem_set_unit]
  constructor
  · intro h; have := h 0; exact Fin.ext (by have h1 := this.1; have h2 := this.2; change j.val ≤ (i 0).val at h1; change (i 0).val < j.val + 1 at h2; omega)
  · rintro rfl d
    match d with
    | ⟨0, _⟩ => exact ⟨le_refl _, Nat.lt_succ_self _⟩
    | ⟨1, _⟩ => exact ⟨Nat.zero_le _, by rw [show offW (i 0) (⟨1, _⟩ : Fin 3) = 0 from rfl, Nat.zero_add]; exact (i 1).isLt⟩
    | ⟨2, _⟩ => exact ⟨Nat.zero_le _, by rw [show offW (i 0) (⟨2, _⟩ : Fin 3) = 0 from rfl, Nat.zero_add]; exact (i 2).isLt⟩

/-- A buffer and a partition of its elements into blocks. -/
theorem whole_blocks {ℓ : Loc nD τ sig} {n : ℕ} (S : Finset (Idx ℓ)) (hS : S = Finset.univ) (I : Fin n → Finset (Idx ℓ))
    (key : Idx ℓ → Fin n) (hI : ∀ l i, i ∈ I l ↔ key i = l) (f : Buf (Elt F) ℓ) :
    (ℓ ↦[S]{fullShare} f : sProp 𝕄) = bigSep Finset.univ fun l => ℓ ↦[I l]{fullShare} f := by
  subst hS
  refine Ring.pointsTo_blocks I (fun b b' hne => Finset.disjoint_left.mpr fun i h h' => hne (((hI b i).mp h).symm.trans ((hI b' i).mp h'))) ?_ f
  exact Finset.eq_univ_of_forall fun i => Finset.mem_biUnion.mpr ⟨key i, Finset.mem_univ _, (hI _ i).mpr rfl⟩
theorem blocks_join {ℓ : Loc nD τ sig} {n : ℕ} (S : Finset (Idx ℓ)) (hS : S = Finset.univ) (I : Fin n → Finset (Idx ℓ))
    (key : Idx ℓ → Fin n) (hI : ∀ l i, i ∈ I l ↔ key i = l) (f₀ : Buf (Elt F) ℓ) :
    bigSep Finset.univ (fun l => iprop(∃ f, ℓ ↦[I l]{fullShare} f)) ⊢ (iprop(∃ g, ℓ ↦[S]{fullShare} g) : sProp 𝕄) := by
  subst hS
  refine Ring.pointsTo_blocks_join_exists I (fun b b' hne => Finset.disjoint_left.mpr fun i h h' => hne (((hI b i).mp h).symm.trans ((hI b' i).mp h'))) ?_ f₀
  exact Finset.eq_univ_of_forall fun i => Finset.mem_biUnion.mpr ⟨key i, Finset.mem_univ _, (hI _ i).mpr rfl⟩

theorem cSlab_key (l : Fin 5) (i : S5x24x2048.Idx) : i ∈ ((cSlab l).view.set : Finset S5x24x2048.Idx) ↔ i 0 = l := by rw [cSlab_set]; exact rC_mem l i
theorem nSlab_key (l : Fin 5) (i : S5x2x24x2048.Idx) : i ∈ ((nSlab l).view.set : Finset S5x2x24x2048.Idx) ↔ i 0 = l := by rw [nSlab_set]; exact rN_mem l i
theorem cOut_set (l : Fin 5) : ((cOut l).view.set : Finset S5x24x2048.Idx) = (rC l).set := (View.set_reshape _ _).trans (View.set_slice_whole _ _)
theorem nOut_set (l : Fin 5) : ((nOut l).view.set : Finset S5x2x24x2048.Idx) = (rN l).set := (View.set_reshape _ _).trans (View.set_slice_whole _ _)
theorem wSlot_set (j : Fin 12) : ((wSlot j).view.set : Finset S12x512x2048.Idx) = (rW j).set := (View.set_reshape _ _).trans (View.set_slice_whole _ _)
theorem cOut_key (l : Fin 5) (i : S5x24x2048.Idx) : i ∈ ((cOut l).view.set : Finset S5x24x2048.Idx) ↔ i 0 = l := by rw [cOut_set]; exact rC_mem l i
theorem nOut_key (l : Fin 5) (i : S5x2x24x2048.Idx) : i ∈ ((nOut l).view.set : Finset S5x2x24x2048.Idx) ↔ i 0 = l := by rw [nOut_set]; exact rN_mem l i
theorem wSlot_key (l : Fin 12) (i : S12x512x2048.Idx) : i ∈ ((wSlot l).view.set : Finset S12x512x2048.Idx) ↔ i 0 = l := by rw [wSlot_set]; exact rW_mem l i

theorem codesB_blocks (c : Dev nD) (f : B (F := F) c codesB) : at_ c codesB f = bigSep Finset.univ fun l : Fin 5 => at_ c (cSlab l) f :=
  whole_blocks (ℓ := codesB.view.loc (c : Thread nD τ)) _ (View.set_whole _) (fun l => (cSlab l).view.set) (fun i : S5x24x2048.Idx => i 0) cSlab_key f
theorem nscB_blocks (c : Dev nD) (f : B (F := F) c nscB) : at_ c nscB f = bigSep Finset.univ fun l : Fin 5 => at_ c (nSlab l) f :=
  whole_blocks (ℓ := nscB.view.loc (c : Thread nD τ)) _ (View.set_whole _) (fun l => (nSlab l).view.set) (fun i : S5x2x24x2048.Idx => i 0) nSlab_key f
theorem codesH_blocks (c : Dev nD) (f : B (F := F) c codesH) : at_ c codesH f = bigSep Finset.univ fun l : Fin 5 => at_ c (cOut l) f :=
  whole_blocks (ℓ := codesH.view.loc (c : Thread nD τ)) _ (View.set_whole _) (fun l => (cOut l).view.set) (fun i : S5x24x2048.Idx => i 0) cOut_key f
theorem nscH_blocks (c : Dev nD) (f : B (F := F) c nscH) : at_ c nscH f = bigSep Finset.univ fun l : Fin 5 => at_ c (nOut l) f :=
  whole_blocks (ℓ := nscH.view.loc (c : Thread nD τ)) _ (View.set_whole _) (fun l => (nOut l).view.set) (fun i : S5x2x24x2048.Idx => i 0) nOut_key f
theorem wB_blocks (c : Dev nD) (f : B (F := F) c wB) : at_ c wB f = bigSep Finset.univ fun j : Fin 12 => at_ c (wSlot j) f :=
  whole_blocks (ℓ := wB.view.loc (c : Thread nD τ)) _ (View.set_whole _) (fun l => (wSlot l).view.set) (fun i : S12x512x2048.Idx => i 0) wSlot_key f

/-- The twelve slots by name. -/
theorem wB_slots (c : Dev nD) (f : B (F := F) c wB) : at_ c wB f =
    iprop(at_ c (wSlot 0) f ∗ at_ c (wSlot 1) f ∗ at_ c (wSlot 2) f ∗ at_ c (wSlot 3) f ∗ at_ c (wSlot 4) f ∗ at_ c (wSlot 5) f
      ∗ at_ c (wSlot 6) f ∗ at_ c (wSlot 7) f ∗ at_ c (wSlot 8) f ∗ at_ c (wSlot 9) f ∗ at_ c (wSlot 10) f ∗ at_ c (wSlot 11) f) := by
  rw [wB_blocks, BI.bigSep_eq_bigSepL_of_eq [(0 : Fin 12), 1, 2, 3, 4, 5, 6, 7, 8, 9, 10, 11] (by decide) (by decide)]; rfl

theorem first_later (Φ : Fin 5 → sProp 𝕄) : bigSep Finset.univ Φ = iprop(Φ 0 ∗ bigSep (later 0) Φ) := by
  rw [show (Finset.univ : Finset (Fin 5)) = insert 0 (later 0) by decide]; exact BI.bigSep_insert (by decide)

theorem bigSep_four (s : Finset (Fin 5)) (Φ₁ Φ₂ Φ₃ Φ₄ : Fin 5 → sProp 𝕄) :
    iprop(bigSep s Φ₁ ∗ bigSep s Φ₂ ∗ bigSep s Φ₃ ∗ bigSep s Φ₄) ⊢ bigSep s (fun l => iprop(Φ₁ l ∗ Φ₂ l ∗ Φ₃ l ∗ Φ₄ l)) :=
  BIBase.Entails.of_eq ((BI.bigSep_sep s Φ₁ (fun l => iprop(Φ₂ l ∗ Φ₃ l ∗ Φ₄ l))).trans
    (congrArg (BI.sep (bigSep s Φ₁)) ((BI.bigSep_sep s Φ₂ (fun l => iprop(Φ₃ l ∗ Φ₄ l))).trans
      (congrArg (BI.sep (bigSep s Φ₂)) (BI.bigSep_sep s Φ₃ Φ₄))))).symm

theorem slabs_of (c : Dev nD) (f22 : B (F := F) c codesB) (f24 : B (F := F) c nscB) (g8 : B (F := F) c codesH) (g10 : B (F := F) c nscH) :
    iprop(at_ c codesB f22 ∗ at_ c nscB f24 ∗ at_ c codesH g8 ∗ at_ c nscH g10)
      ⊢ iprop(at_ c (cSlab 0) f22 ∗ at_ c (nSlab 0) f24 ∗ at_ c (cOut 0) g8 ∗ at_ c (nOut 0) g10 ∗ bigSep (later 0) (slabs c g8 g10)) := by
  rw [codesB_blocks, nscB_blocks, codesH_blocks, nscH_blocks, first_later, first_later, first_later, first_later]
  iintro ⟨⟨A, A'⟩, ⟨B, B'⟩, ⟨C, C'⟩, ⟨D, D'⟩⟩
  isplitl [A]; · iexact A
  isplitl [B]; · iexact B
  isplitl [C]; · iexact C
  isplitl [D]; · iexact D
  have e : ∀ l : Fin 5, iprop(at_ c (cSlab l) f22 ∗ at_ c (nSlab l) f24 ∗ at_ c (cOut l) g8 ∗ at_ c (nOut l) g10) ⊢ slabs c g8 g10 l := by
    intro l; unfold slabs
    iintro ⟨A, B, C, D⟩
    isplitl [A]; · iexists _; iexact A
    isplitl [B]; · iexists _; iexact B
    isplitl [C] <;> iassumption
  have em : bigSep (later 0) (fun l : Fin 5 => iprop(at_ c (cSlab l) f22 ∗ at_ c (nSlab l) f24 ∗ at_ c (cOut l) g8 ∗ at_ c (nOut l) g10)) ⊢ bigSep (later 0) (slabs c g8 g10) :=
    BI.bigSep_mono (s := later 0) fun l _ => e l
  iapply em
  iapply (bigSep_four (later 0) (fun l => at_ c (cSlab l) f22) (fun l => at_ c (nSlab l) f24) (fun l => at_ c (cOut l) g8) (fun l => at_ c (nOut l) g10))
  isplitl [A']; · iexact A'
  isplitl [B']; · iexact B'
  isplitl [C'] <;> iassumption

/-! ## What the two batches bring back -/

theorem cOut_contents (c : Dev nD) (l : Fin 5) (CB : Vec F S5x24x2048 .fp8e4m3) (f : B (F := F) c codesH) :
    ∀ i ∈ (cOut l).view.set, (cOut l).view.writes (Elt F) f [⟨Rect.whole S24x2048, ReadAs.same.apply ((cSlab l).view.read (Elt F) CB)⟩] i = CB i := by
  intro i hi
  obtain ⟨x, -, rfl⟩ := Finset.mem_map.mp hi
  exact View.eq_of_read_eq (congrFun (View.read_writes_whole (cOut l).view f _) x)
theorem nOut_contents (c : Dev nD) (l : Fin 5) (CB : Vec F S5x2x24x2048 .fp8e4m3) (f : B (F := F) c nscH) :
    ∀ i ∈ (nOut l).view.set, (nOut l).view.writes (Elt F) f [⟨Rect.whole S2x24x2048, ReadAs.same.apply ((nSlab l).view.read (Elt F) CB)⟩] i = CB i := by
  intro i hi
  obtain ⟨x, -, rfl⟩ := Finset.mem_map.mp hi
  exact View.eq_of_read_eq (congrFun (View.read_writes_whole (nOut l).view f _) x)

theorem dC_all (c : Dev nD) (CB : Vec F S5x24x2048 .fp8e4m3) (f : B (F := F) c codesH) :
    bigSep Finset.univ (dC c CB f) ⊢ iprop(at_ c codesH (CB : B (F := F) c codesH) ∗ at_ c codesB (CB : B (F := F) c codesB)) := by
  rw [codesB_blocks, codesH_blocks]
  have e : ∀ l : Fin 5, dC c CB f l ⊢ iprop(at_ c (cOut l) (CB : B (F := F) c codesH) ∗ at_ c (cSlab l) CB) := fun l => by
    unfold dC
    iintro ⟨A, B⟩
    isplitl [A]
    · iapply (BIBase.Entails.of_eq (pointsTo_congr (cOut_contents c l CB f))); iexact A
    · iexact B
  exact (BI.bigSep_mono (s := Finset.univ) fun l _ => e l).trans (BIBase.Entails.of_eq (BI.bigSep_sep _ _ _))
theorem dN_all (c : Dev nD) (CB : Vec F S5x2x24x2048 .fp8e4m3) (f : B (F := F) c nscH) :
    bigSep Finset.univ (dN c CB f) ⊢ iprop(at_ c nscH (CB : B (F := F) c nscH) ∗ at_ c nscB (CB : B (F := F) c nscB)) := by
  rw [nscB_blocks, nscH_blocks]
  have e : ∀ l : Fin 5, dN c CB f l ⊢ iprop(at_ c (nOut l) (CB : B (F := F) c nscH) ∗ at_ c (nSlab l) CB) := fun l => by
    unfold dN
    iintro ⟨A, B⟩
    isplitl [A]
    · iapply (BIBase.Entails.of_eq (pointsTo_congr (nOut_contents c l CB f))); iexact A
    · iexact B
  exact (BI.bigSep_mono (s := Finset.univ) fun l _ => e l).trans (BIBase.Entails.of_eq (BI.bigSep_sep _ _ _))

/-! ## Read shares of the weights, one per chunk -/

/-- What is left of the weights beside the twelve shares. -/
def wDrop (c : Dev nD) (W : B (F := F) c wH) : sProp 𝕄 := wH.view.loc (c : Thread nD τ) ↦{Transfers.shareDrop fullShare 12} W

theorem wH_toks (c : Dev nD) (W : B (F := F) c wH) : at_ c wH W ⊣⊢
    iprop(wDrop c W ∗ wTok c 0 W ∗ wTok c 1 W ∗ wTok c 2 W ∗ wTok c 3 W ∗ wTok c 4 W ∗ wTok c 5 W
      ∗ wTok c 6 W ∗ wTok c 7 W ∗ wTok c 8 W ∗ wTok c 9 W ∗ wTok c 10 W ∗ wTok c 11 W) := by
  have h := Transfers.pointsTo_toks_range (ℓ := wH.view.loc (c : Thread nD τ)) (S := Finset.univ) (f := W) (Ix := Unit) (Name := ℕ) (U := Pipeline.UD sig nD τ) (Lvl := ℕ) fullShare 12
  rw [BI.bigSep_eq_bigSepL_of_eq [0, 1, 2, 3, 4, 5, 6, 7, 8, 9, 10, 11] (by decide) (by decide)] at h
  have e : at_ c wH W = (wH.view.loc (c : Thread nD τ) ↦{fullShare} W : sProp 𝕄) :=
    congrArg (fun S : Finset S5x3x2048x2048.Idx => (wH.view.loc (c : Thread nD τ) ↦[S]{fullShare} W : sProp 𝕄)) (View.set_whole _)
  rw [e]; exact h

/-- The rest of a chunk's read share, beside the chunk itself. -/
def wRem (c : Dev nD) (j : Fin 12) (off : Fin 4 → Nat) (hh : ∀ a, off a + S1x1x512x2048.size a ≤ S5x3x2048x2048.size a) (hs : ∀ a, (Rect.unit (s := S5x3x2048x2048) off S1x1x512x2048.size hh).stride a = 1) (W : B (F := F) c wH) : sProp 𝕄 :=
  wH.view.loc (c : Thread nD τ) ↦[Finset.univ \ (wSrc off hh hs).view.set]{Transfers.shareTokN fullShare j.val} W
/-- A memref's window held at a part of the whole share. -/
abbrev atq (c : Dev nD) {sp : Space} {S : Shape} {e : EltTy} (M : Memref sig .tc sp S e) (q : PosShare TreeShare) (f : B (F := F) c M) : sProp 𝕄 :=
  M.view.loc (c : Thread nD τ) ↦[M.view.set]{q} f
theorem wTok_split (c : Dev nD) (j : Fin 12) (off : Fin 4 → Nat) (hh : ∀ a, off a + S1x1x512x2048.size a ≤ S5x3x2048x2048.size a) (hs : ∀ a, (Rect.unit (s := S5x3x2048x2048) off S1x1x512x2048.size hh).stride a = 1) (W : B (F := F) c wH) :
    wTok c j W ⊢ iprop(atq c (wSrc off hh hs) (Transfers.shareTokN fullShare j.val) W ∗ wRem c j off hh hs W) :=
  (pointsTo_split_subset (Finset.subset_univ (wSrc off hh hs).view.set)).1

/-- A buffer filled whole by a copy holds what was copied. -/
theorem copied (c : Dev nD) {sp : Space} {S : Shape} {e : EltTy} (M : Memref sig .tc sp S e) (f g : B (F := F) c M) (v : Vec F S e)
    (h : v = M.view.read (Elt F) g) : at_ c M (M.view.writes (Elt F) f [⟨Rect.whole S, v⟩]) ⊢ at_ c M g :=
  BIBase.Entails.of_eq (pointsTo_congr fun i hi => by
    obtain ⟨x, -, rfl⟩ := Finset.mem_map.mp hi
    exact View.eq_of_read_eq ((congrFun (View.read_writes_whole M.view f v) x).trans (congrFun h x)))

/-- The deliveries of a batch by name. -/
theorem five (Φ : Fin 5 → sProp 𝕄) : bigSep Finset.univ Φ = iprop(Φ 0 ∗ Φ 1 ∗ Φ 2 ∗ Φ 3 ∗ Φ 4) := by
  rw [BI.bigSep_eq_bigSepL_of_eq [(0 : Fin 5), 1, 2, 3, 4] (by decide) (by decide)]; rfl
theorem dC_five (c : Dev nD) (CB : Vec F S5x24x2048 .fp8e4m3) (f : B (F := F) c codesH) :
    iprop(dC c CB f 0 ∗ dC c CB f 1 ∗ dC c CB f 2 ∗ dC c CB f 3 ∗ dC c CB f 4)
      ⊢ iprop(at_ c codesH (CB : B (F := F) c codesH) ∗ at_ c codesB (CB : B (F := F) c codesB)) :=
  (BIBase.Entails.of_eq (five _).symm).trans (dC_all c CB f)
theorem dN_five (c : Dev nD) (CB : Vec F S5x2x24x2048 .fp8e4m3) (f : B (F := F) c nscH) :
    iprop(dN c CB f 0 ∗ dN c CB f 1 ∗ dN c CB f 2 ∗ dN c CB f 3 ∗ dN c CB f 4)
      ⊢ iprop(at_ c nscH (CB : B (F := F) c nscH) ∗ at_ c nscB (CB : B (F := F) c nscB)) :=
  (BIBase.Entails.of_eq (five _).symm).trans (dN_all c CB f)

end Cert.KernelIdeal.Hand

end
-- ==== Proof.Ideal.Body.lean ====
module

public import proofs.«01_k».proof.Proof.Ideal.Slabs

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The kernel's buffers, at some contents; its DMA cells at zero; the arrays it reads, as launched. -/
def scr (c : Dev nD) : sProp 𝕄 :=
  iprop((∃ f, at_ c wB f) ∗ (∃ f, at_ c xB f) ∗ (∃ f, at_ c scB f) ∗ (∃ f, at_ c ssB f) ∗ (∃ f, at_ c wsB f) ∗ (∃ f, at_ c bB f) ∗ (∃ f, at_ c posB f) ∗ (∃ f, at_ c lhsB f) ∗ (∃ f, at_ c accB f) ∗ (∃ f, at_ c yB f) ∗ (∃ f, at_ c codesB f) ∗ (∃ f, at_ c scalesB f) ∗ (∃ f, at_ c nscB f) ∗ (∃ f, at_ c nssB f))
def cells (c : Dev nD) : sProp 𝕄 :=
  iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0)
def ins (c : Dev nD) (a : In F) : sProp 𝕄 :=
  iprop(at_ c xH a.X ∗ at_ c scH a.SC ∗ at_ c ssH a.SS ∗ at_ c wH a.W ∗ at_ c wsH a.WS ∗ at_ c bH a.Bi ∗ at_ c posH a.POS)

abbrev slC0 := codesB.slice (Rect.unit (s := S5x24x2048) ![0, 0, 0] S1x24x2048.size inb_S5x24x2048_S1x24x2048_0_0_0) (fun _ => rfl)
abbrev slN0 := nscB.slice (Rect.unit (s := S5x2x24x2048) ![0, 0, 0, 0] S1x2x24x2048.size inb_S5x2x24x2048_S1x2x24x2048_0_0_0_0) (fun _ => rfl)
theorem slC0_set : ((slC0).view.set : Finset S5x24x2048.Idx) = (cSlab 0).view.set :=
  (View.set_slice_whole _ _).trans ((unit_set_congr rfl _ _).trans (cSlab_set 0).symm)
theorem slN0_set : ((slN0).view.set : Finset S5x2x24x2048.Idx) = (nSlab 0).view.set :=
  (View.set_slice_whole _ _).trans ((unit_set_congr rfl _ _).trans (nSlab_set 0).symm)
theorem slC0_of (c : Dev nD) (f : B (F := F) c codesB) : at_ c (cSlab 0) f ⊢ at_ c slC0 f :=
  BIBase.Entails.of_eq (congrArg (fun S : Finset S5x24x2048.Idx => (codesB.view.loc (c : Thread nD τ) ↦[S]{fullShare} f : sProp 𝕄)) slC0_set.symm)
theorem slN0_of (c : Dev nD) (f : B (F := F) c nscB) : at_ c (nSlab 0) f ⊢ at_ c slN0 f :=
  BIBase.Entails.of_eq (congrArg (fun S : Finset S5x2x24x2048.Idx => (nscB.view.loc (c : Thread nD τ) ↦[S]{fullShare} f : sProp 𝕄)) slN0_set.symm)
theorem slC0_to (c : Dev nD) (f g : B (F := F) c codesB) (h : ∀ i : S5x24x2048.Idx, i ∈ (cSlab 0).view.set → f i = g i) :
    at_ c slC0 f ⊢ at_ c (cSlab 0) g :=
  (BIBase.Entails.of_eq (congrArg (fun S : Finset S5x24x2048.Idx => (codesB.view.loc (c : Thread nD τ) ↦[S]{fullShare} f : sProp 𝕄)) slC0_set)).trans
    (BIBase.Entails.of_eq (pointsTo_congr h))
theorem slN0_to (c : Dev nD) (f g : B (F := F) c nscB) (h : ∀ i : S5x2x24x2048.Idx, i ∈ (nSlab 0).view.set → f i = g i) :
    at_ c slN0 f ⊢ at_ c (nSlab 0) g :=
  (BIBase.Entails.of_eq (congrArg (fun S : Finset S5x2x24x2048.Idx => (nscB.view.loc (c : Thread nD τ) ↦[S]{fullShare} f : sProp 𝕄)) slN0_set)).trans
    (BIBase.Entails.of_eq (pointsTo_congr h))

theorem wFlight_at (c : Dev nD) (a : In F) (l : Fin 5) (j : Fin 12) {off : Fin 4 → Nat} (hoff : off = ![l.val, j.val / 4, 512 * (j.val % 4), 0])
    (hh : ∀ a, off a + S1x1x512x2048.size a ≤ S5x3x2048x2048.size a) (hs : ∀ a, (Rect.unit (s := S5x3x2048x2048) off S1x1x512x2048.size hh).stride a = 1) (f0 : B (F := F) c wB) :
    iprop(Transfers.Flight countersEmb (c : Thread nD τ) (SemLoc.dma ⟨j.val, wCell_lt j⟩) () 32768
        iprop(((wSlot j).view.loc (c : Thread nD τ) ↦[(wSlot j).view.set]{fullShare}
            (wSlot j).view.writes (Elt F) f0 [⟨Rect.whole S512x2048, ReadAs.same.apply ((wSrc off hh hs).view.read (Elt F) a.W)⟩])
          ∗ (wH.view.loc (c : Thread nD τ) ↦[(wSrc off hh hs).view.set]{Transfers.shareTokN fullShare j.val} (a.W : B (F := F) c wH)))
      ∗ wRem c j off hh hs a.W)
    ⊢ wFlight c j (a.W : B (F := F) c wH) (WBUF a l) := by
  unfold wRem; exact wFlight_of c a l j hoff hh hs f0

/-- The loop's invariant before its first trip. -/
theorem inv_zero (a : In F) (c : Dev nD) (g8 : B (F := F) c codesH) (g10 : B (F := F) c nscH) (f19 : B (F := F) c lhsB) (f20 : B (F := F) c accB)
    (f23 : B (F := F) c scalesB) (f25 : B (F := F) c nssB) (Wt : Waits sig Unit) (h19 : LhOk a 0 f19) (h23 : ScOk a 1 f23) (h25 : NsOk a 1 f25) :
    iprop(at_ c scB a.SC ∗ at_ c ssB a.SS ∗ at_ c wsB a.WS ∗ at_ c bB a.Bi ∗ at_ c posB a.POS ∗ at_ c lhsB f19 ∗ at_ c accB f20 ∗ at_ c scalesB f23 ∗ at_ c nssB f25
      ∗ bigSep (later 0) (slabs c g8 g10)
      ∗ Transfers.Batch (countersEmb (U := Pipeline.UD sig nD τ)) (c : Thread nD τ) (SemLoc.dma 18) () 2048 (dC c (CODES a) g8) 1 0
      ∗ Transfers.Batch (countersEmb (U := Pipeline.UD sig nD τ)) (c : Thread nD τ) (SemLoc.dma 19) () 4096 (dN c (NSC a) g10) 1 0
      ∗ wAll c a.W (WBUF a 0) ∗ owes (c : Thread nD τ) 0 Wt) ⊢ invH a c g8 g10 0 := by
  rw [invH_eq]
  unfold invAt
  iintro ⟨A0, A1, A2, A3, A4, A5, A6, A7, A8, A9, A10, A11, A12, A13⟩
  isplitl [A0]; · iexact A0
  isplitl [A1]; · iexact A1
  isplitl [A2]; · iexact A2
  isplitl [A3]; · iexact A3
  isplitl [A4]; · iexact A4
  isplitl [A5]
  · iexists _
    isplitr
    · ipureintro; exact h19
    iexact A5
  isplitl [A6]; · iexists _; iexact A6
  isplitl [A7]
  · iexists _
    isplitr
    · ipureintro; exact h23
    iexact A7
  isplitl [A8]
  · iexists _
    isplitr
    · ipureintro; exact h25
    iexact A8
  isplitl [A9]; · iexact A9
  isplitl [A10]; · iexact A10
  isplitl [A11]; · iexact A11
  isplitl [A12]; · iexact A12
  iexists _; iexact A13

theorem lay_four : lay 4 = 4 := by decide
theorem trips_four : Scf.trips k0_t1_loop.lb k0_t1_loop.ub k0_t1_loop.st = 4 := by decide

/-- What the loop leaves. -/
theorem inv_four (a : In F) (c : Dev nD) (g8 : B (F := F) c codesH) (g10 : B (F := F) c nscH) :
    invH a c g8 g10 (Scf.trips k0_t1_loop.lb k0_t1_loop.ub k0_t1_loop.st) ⊢
    iprop(at_ c scB a.SC ∗ at_ c ssB a.SS ∗ at_ c wsB a.WS ∗ at_ c bB a.Bi ∗ at_ c posB a.POS ∗ (∃ f, ⌜LhOk a 4 f⌝ ∗ at_ c lhsB f) ∗ (∃ f, at_ c accB f)
      ∗ at_ c scalesB (SCALES a) ∗ at_ c nssB (NSS a)
      ∗ Transfers.Batch (countersEmb (U := Pipeline.UD sig nD τ)) (c : Thread nD τ) (SemLoc.dma 18) () 2048 (dC c (CODES a) g8) 5 0
      ∗ Transfers.Batch (countersEmb (U := Pipeline.UD sig nD τ)) (c : Thread nD τ) (SemLoc.dma 19) () 4096 (dN c (NSC a) g10) 5 0
      ∗ wAll c a.W (WBUF a 4) ∗ (∃ Wt, owes (c : Thread nD τ) 0 Wt)) := by
  rw [trips_four, invH_eq]
  unfold invAt
  rw [lay_four]
  iintro ⟨A0, A1, A2, A3, A4, ⟨%f5, %h5, A5⟩, ⟨%f6, A6⟩, ⟨%f7, %h7, A7⟩, ⟨%f8, %h8, A8⟩, A9, A10, A11, A12, A13⟩
  iclear A9
  obtain rfl : f7 = SCALES a := funext fun i => h7 i (i 0).isLt
  obtain rfl : f8 = NSS a := funext fun i => h8 i (i 0).isLt
  isplitl [A0]; · iexact A0
  isplitl [A1]; · iexact A1
  isplitl [A2]; · iexact A2
  isplitl [A3]; · iexact A3
  isplitl [A4]; · iexact A4
  isplitl [A5]
  · iexists f5
    isplitr
    · ipureintro; exact h5
    iexact A5
  isplitl [A6]; · iexists _; iexact A6
  isplitl [A7]; · iexact A7
  isplitl [A8]; · iexact A8
  isplitl [A10]; · iexact A10
  isplitl [A11]; · iexact A11
  isplitl [A12]; · iexact A12
  iexact A13

/-- A buffer stored whole reads as what was stored. -/
theorem yB_read (c : Dev nD) (f : B (F := F) c yB) (v : Vec F S24x2048 .bf16) :
    ReadAs.same.apply (yB.view.read (Elt F) (yB.view.writes (Elt F) f [⟨Rect.unit (s := S24x2048) ![0, 0] S24x2048.size inb_S24x2048_S24x2048_0_0, v⟩])) = v := by
  funext i
  exact View.read_writes_cons_unit_of_mem yB.view f inb_S24x2048_S24x2048_0_0 v [] i i rfl fun a => match a with
    | ⟨0, _⟩ => (Nat.zero_add _).symm | ⟨1, _⟩ => (Nat.zero_add _).symm

set_option sl_exec.closedLoads true in
theorem bodyRun (a : In F) (c : Dev nD) (g7 : B (F := F) c yH) (g8 : B (F := F) c codesH) (g9 : B (F := F) c scalesH) (g10 : B (F := F) c nscH) (g11 : B (F := F) c nssH)
    (Wt : Waits sig Unit) (K : PUnit → sProp 𝕄) :
    iprop(scr (F := F) c ∗ cells (F := F) c ∗ ins c a ∗ at_ c yH g7 ∗ at_ c codesH g8 ∗ at_ c scalesH g9 ∗ at_ c nscH g10 ∗ at_ c nssH g11 ∗ owes (c : Thread nD τ) 0 Wt
      ∗ (iprop(scr (F := F) c ∗ cells (F := F) c ∗ ins c a ∗ at_ c yH (YV a) ∗ at_ c codesH (CODES a) ∗ at_ c scalesH (SCALES a) ∗ at_ c nscH (NSC a) ∗ at_ c nssH (NSS a) ∗ (∃ W', owes (c : Thread nD τ) 0 W')) -∗ K ⟨⟩))
      ⊢ wp frame (wpE (defs₀ (F := F)) 𝒱₀ (c : Thread nD τ) none) Set.univ (cc0_conv_stack xH (Memref.isWhole_whole _) scH (Memref.isWhole_whole _) ssH (Memref.isWhole_whole _) wH (Memref.isWhole_whole _) wsH (Memref.isWhole_whole _) bH (Memref.isWhole_whole _) posH (Memref.isWhole_whole _) yH (Memref.isWhole_whole _) codesH (Memref.isWhole_whole _) scalesH (Memref.isWhole_whole _) nscH (Memref.isWhole_whole _) nssH (Memref.isWhole_whole _) wB (Memref.isWhole_whole _) xB (Memref.isWhole_whole _) scB (Memref.isWhole_whole _) ssB (Memref.isWhole_whole _) wsB (Memref.isWhole_whole _) bB (Memref.isWhole_whole _) posB (Memref.isWhole_whole _) lhsB (Memref.isWhole_whole _) accB (Memref.isWhole_whole _) yB (Memref.isWhole_whole _) codesB (Memref.isWhole_whole _) scalesB (Memref.isWhole_whole _) nscB (Memref.isWhole_whole _) nssB (Memref.isWhole_whole _) cc0_scratch14 cc0_scratch15 cc0_scratch16) K := by
  unfold scr cells ins
  iintro ⟨⟨⟨%fs0, S0⟩, ⟨%fs1, S1⟩, ⟨%fs2, S2⟩, ⟨%fs3, S3⟩, ⟨%fs4, S4⟩, ⟨%fs5, S5⟩, ⟨%fs6, S6⟩, ⟨%fs7, S7⟩, ⟨%fs8, S8⟩, ⟨%fs9, S9⟩, ⟨%fs10, S10⟩, ⟨%fs11, S11⟩, ⟨%fs12, S12⟩, ⟨%fs13, S13⟩⟩, ⟨Q0, Q1, Q2, Q3, Q4, Q5, Q6, Q7, Q8, Q9, Q10, Q11, Q12, Q13, Q14, Q15, Q16, Q17, Q18, Q19, Q20, Q21, Q22⟩, ⟨H0, H1, H2, H3, H4, H5, H6⟩, H7, H8, H9, H10, H11, HW, Hk⟩
  imod (Transfers.batch_alloc' (Lvl := ℕ) (countersEmb (U := Pipeline.UD sig nD τ)) (c : Thread nD τ) () 2048 (dC c (CODES a) g8) (sm := SemLoc.dma 18) (E := Set.univ)) $$ Q18 with HB0
  imod (Transfers.batch_alloc' (Lvl := ℕ) (countersEmb (U := Pipeline.UD sig nD τ)) (c : Thread nD τ) () 4096 (dN c (NSC a) g10) (sm := SemLoc.dma 19) (E := Set.univ)) $$ Q19 with HB1
  ihave S0 := (BIBase.Entails.of_eq (wB_slots c fs0)) $$ [S0]
  · iexact S0
  icases S0 with ⟨D0, D1, D2, D3, D4, D5, D6, D7, D8, D9, D10, D11⟩
  ihave HL := (slabs_of c fs10 fs12 g8 g10) $$ [S10 S12 H8 H10]
  · isplitl [S10]; · iexact S10
    isplitl [S12]; · iexact S12
    isplitl [H8] <;> iassumption
  icases HL with ⟨S10, S12, H8, H10, Hrest⟩
  ihave S10 := (slC0_of c fs10) $$ [S10]
  · iexact S10
  ihave S12 := (slN0_of c fs12) $$ [S12]
  · iexact S12
  ihave H3 := (wH_toks c a.W).1 $$ [H3]
  · iexact H3
  icases H3 with ⟨Hdrop, T0, T1, T2, T3, T4, T5, T6, T7, T8, T9, T10, T11⟩
  ihave T0 := (wTok_split c 0 ![0, 0, 0, 0] inb_S5x3x2048x2048_S1x1x512x2048_0_0_0_0 (fun _ => rfl) a.W) $$ [T0]
  · iexact T0
  icases T0 with ⟨T0, E0⟩
  ihave T1 := (wTok_split c 1 ![0, 0, 512, 0] inb_S5x3x2048x2048_S1x1x512x2048_0_0_512_0 (fun _ => rfl) a.W) $$ [T1]
  · iexact T1
  icases T1 with ⟨T1, E1⟩
  ihave T2 := (wTok_split c 2 ![0, 0, 1024, 0] inb_S5x3x2048x2048_S1x1x512x2048_0_0_1024_0 (fun _ => rfl) a.W) $$ [T2]
  · iexact T2
  icases T2 with ⟨T2, E2⟩
  ihave T3 := (wTok_split c 3 ![0, 0, 1536, 0] inb_S5x3x2048x2048_S1x1x512x2048_0_0_1536_0 (fun _ => rfl) a.W) $$ [T3]
  · iexact T3
  icases T3 with ⟨T3, E3⟩
  ihave T4 := (wTok_split c 4 ![0, 1, 0, 0] inb_S5x3x2048x2048_S1x1x512x2048_0_1_0_0 (fun _ => rfl) a.W) $$ [T4]
  · iexact T4
  icases T4 with ⟨T4, E4⟩
  ihave T5 := (wTok_split c 5 ![0, 1, 512, 0] inb_S5x3x2048x2048_S1x1x512x2048_0_1_512_0 (fun _ => rfl) a.W) $$ [T5]
  · iexact T5
  icases T5 with ⟨T5, E5⟩
  ihave T6 := (wTok_split c 6 ![0, 1, 1024, 0] inb_S5x3x2048x2048_S1x1x512x2048_0_1_1024_0 (fun _ => rfl) a.W) $$ [T6]
  · iexact T6
  icases T6 with ⟨T6, E6⟩
  ihave T7 := (wTok_split c 7 ![0, 1, 1536, 0] inb_S5x3x2048x2048_S1x1x512x2048_0_1_1536_0 (fun _ => rfl) a.W) $$ [T7]
  · iexact T7
  icases T7 with ⟨T7, E7⟩
  ihave T8 := (wTok_split c 8 ![0, 2, 0, 0] inb_S5x3x2048x2048_S1x1x512x2048_0_2_0_0 (fun _ => rfl) a.W) $$ [T8]
  · iexact T8
  icases T8 with ⟨T8, E8⟩
  ihave T9 := (wTok_split c 9 ![0, 2, 512, 0] inb_S5x3x2048x2048_S1x1x512x2048_0_2_512_0 (fun _ => rfl) a.W) $$ [T9]
  · iexact T9
  icases T9 with ⟨T9, E9⟩
  ihave T10 := (wTok_split c 10 ![0, 2, 1024, 0] inb_S5x3x2048x2048_S1x1x512x2048_0_2_1024_0 (fun _ => rfl) a.W) $$ [T10]
  · iexact T10
  icases T10 with ⟨T10, E10⟩
  ihave T11 := (wTok_split c 11 ![0, 2, 1536, 0] inb_S5x3x2048x2048_S1x1x512x2048_0_2_1536_0 (fun _ => rfl) a.W) $$ [T11]
  · iexact T11
  icases T11 with ⟨T11, E11⟩
  simp only [cc0_conv_stack_eq_skeleton]; unfold cc0_conv_stack_skel
  set_option sl_exec.stopBefore "k0_part20" in sl_exec
  set_option sl_exec.maxSteps 10 in sl_exec
  ihave S1 := (copied c xB _ a.X _ rfl) $$ [S1]
  · iexact S1
  ihave S2 := (copied c scB _ a.SC _ rfl) $$ [S2]
  · iexact S2
  ihave S3 := (copied c ssB _ a.SS _ rfl) $$ [S3]
  · iexact S3
  ihave S4 := (copied c wsB _ a.WS _ rfl) $$ [S4]
  · iexact S4
  ihave S5 := (copied c bB _ a.Bi _ rfl) $$ [S5]
  · iexact S5
  ihave S6 := (copied c posB _ a.POS _ rfl) $$ [S6]
  · iexact S6
  set_option sl_exec.stopBefore "k0_part24" in sl_exec
  have p2 : bodyRun.sl.r_2 a = scaleV (act a 0) := rfl
  have p3 : bodyRun.sl.r_3 a = codesV (act a 0) := rfl
  have p4 : bodyRun.sl.r_4 a = codesSlab (act a 0) := rfl
  have p5 : bodyRun.sl.r_5 a = scaleRow (act a 0) := congrArg k0_pay46 p2
  have p45 : k0_pay45 (bodyRun.sl.r_2 a) (bodyRun.sl.r_3 a) = winV (act a 0) := congrArg₂ k0_pay45 p2 p3
  have p47 : k0_pay47 (bodyRun.sl.r_2 a) = scaleSlab (act a 0) := congrArg k0_pay47 p2
  have p52 : k0_pay52 (bodyRun.sl.r_8 a) (bodyRun.sl.r_9 a) (bodyRun.sl.r_10 a) 0#32 = nscOf a 0 0 :=
    (congrArg (fun C => k0_pay52 (k0_pay49 C) (bodyRun.sl.r_9 a) (bodyRun.sl.r_10 a) 0#32) p3).trans (nscOf_zero a 0).symm
  have p54 : k0_pay54 (bodyRun.sl.r_7 a) (bodyRun.sl.r_8 a) (scRow a 0 1) = nscOf a 0 1 :=
    (congrArg (fun C => k0_pay54 (bodyRun.sl.r_7 a) (k0_pay49 C) (scRow a 0 1)) p3).trans (nscOf_one a 0).symm
  have p53 : k0_pay53 (bodyRun.sl.r_5 a) (bodyRun.sl.r_6 a) (ssRow a 0 0) = nssOf a 0 0 :=
    (congrArg (fun C => k0_pay53 C (posRow a) (ssRow a 0 0)) p5).trans (nssOf_zero a 0).symm
  have p56 : k0_pay56 (bodyRun.sl.r_5 a) (bodyRun.sl.r_6 a) k0_pay55 (ssRow a 0 1) = nssOf a 0 1 :=
    (congrArg (fun C => k0_pay56 C (posRow a) k0_pay55 (ssRow a 0 1)) p5).trans (nssOf_one a 0).symm
  ihave S10 := (slC0_to c (bodyRun.sl.S10_w1 a c fs10) (CODES a) (codes_contents a 0 rfl inb_S5x24x2048_S1x24x2048_0_0_0 fs10 _ p4)) $$ [S10]
  · iexact S10
  ihave S12 := (slN0_to c (bodyRun.sl.S12_w3 a c fs12) (NSC a) (nsc_contents a 0 rfl rfl inb_S5x2x24x2048_S1x1x24x2048_0_0_0_0 inb_S5x2x24x2048_S1x1x24x2048_0_1_0_0 fs12 _ _ p52 p54)) $$ [S12]
  · iexact S12
  set_option sl_exec.maxSteps 9 in sl_exec
  ihave Q0 := (wFlight_at c a 0 0 (off := ![0, 0, 0, 0]) rfl inb_S5x3x2048x2048_S1x1x512x2048_0_0_0_0 (fun _ => rfl) fs0) $$ [Q0 E0]
  · isplitl [Q0]; · iexact Q0
    iexact E0
  ihave Q1 := (wFlight_at c a 0 1 (off := ![0, 0, 512, 0]) rfl inb_S5x3x2048x2048_S1x1x512x2048_0_0_512_0 (fun _ => rfl) fs0) $$ [Q1 E1]
  · isplitl [Q1]; · iexact Q1
    iexact E1
  ihave Q2 := (wFlight_at c a 0 2 (off := ![0, 0, 1024, 0]) rfl inb_S5x3x2048x2048_S1x1x512x2048_0_0_1024_0 (fun _ => rfl) fs0) $$ [Q2 E2]
  · isplitl [Q2]; · iexact Q2
    iexact E2
  ihave Q3 := (wFlight_at c a 0 3 (off := ![0, 0, 1536, 0]) rfl inb_S5x3x2048x2048_S1x1x512x2048_0_0_1536_0 (fun _ => rfl) fs0) $$ [Q3 E3]
  · isplitl [Q3]; · iexact Q3
    iexact E3
  ihave Q4 := (wFlight_at c a 0 4 (off := ![0, 1, 0, 0]) rfl inb_S5x3x2048x2048_S1x1x512x2048_0_1_0_0 (fun _ => rfl) fs0) $$ [Q4 E4]
  · isplitl [Q4]; · iexact Q4
    iexact E4
  ihave Q5 := (wFlight_at c a 0 5 (off := ![0, 1, 512, 0]) rfl inb_S5x3x2048x2048_S1x1x512x2048_0_1_512_0 (fun _ => rfl) fs0) $$ [Q5 E5]
  · isplitl [Q5]; · iexact Q5
    iexact E5
  ihave Q6 := (wFlight_at c a 0 6 (off := ![0, 1, 1024, 0]) rfl inb_S5x3x2048x2048_S1x1x512x2048_0_1_1024_0 (fun _ => rfl) fs0) $$ [Q6 E6]
  · isplitl [Q6]; · iexact Q6
    iexact E6
  ihave Q7 := (wFlight_at c a 0 7 (off := ![0, 1, 1536, 0]) rfl inb_S5x3x2048x2048_S1x1x512x2048_0_1_1536_0 (fun _ => rfl) fs0) $$ [Q7 E7]
  · isplitl [Q7]; · iexact Q7
    iexact E7
  ihave Q8 := (wFlight_at c a 0 8 (off := ![0, 2, 0, 0]) rfl inb_S5x3x2048x2048_S1x1x512x2048_0_2_0_0 (fun _ => rfl) fs0) $$ [Q8 E8]
  · isplitl [Q8]; · iexact Q8
    iexact E8
  ihave Q9 := (wFlight_at c a 0 9 (off := ![0, 2, 512, 0]) rfl inb_S5x3x2048x2048_S1x1x512x2048_0_2_512_0 (fun _ => rfl) fs0) $$ [Q9 E9]
  · isplitl [Q9]; · iexact Q9
    iexact E9
  ihave Q10 := (wFlight_at c a 0 10 (off := ![0, 2, 1024, 0]) rfl inb_S5x3x2048x2048_S1x1x512x2048_0_2_1024_0 (fun _ => rfl) fs0) $$ [Q10 E10]
  · isplitl [Q10]; · iexact Q10
    iexact E10
  ihave Q11 := (wFlight_at c a 0 11 (off := ![0, 2, 1536, 0]) rfl inb_S5x3x2048x2048_S1x1x512x2048_0_2_1536_0 (fun _ => rfl) fs0) $$ [Q11 E11]
  · isplitl [Q11]; · iexact Q11
    iexact E11
  ihave HI := (inv_zero a c g8 g10 _ _ _ _ _
      (lh_contents a 0 inb_S3x24x2048_S1x24x2048_2_0_0 fs7 _ p45)
      (sc_contents a 0 rfl inb_S5x1x24_S1x1x24_0_0_0 fs11 _ p47 (fun _ h => absurd h (Nat.not_lt_zero _)))
      (nss_contents a 0 rfl rfl inb_S5x2x24_S1x1x24_0_0_0 inb_S5x2x24_S1x1x24_0_1_0 fs13 _ _ p53 p56 (fun _ h => absurd h (Nat.not_lt_zero _)))) $$ [S2 S3 S4 S5 S6 S7 S8 S11 S13 Hrest HB0 HB1 Q0 Q1 Q2 Q3 Q4 Q5 Q6 Q7 Q8 Q9 Q10 Q11 HW]
  · isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S11]; · iexact S11
    isplitl [S13]; · iexact S13
    isplitl [Hrest]; · iexact Hrest
    isplitl [HB0]; · iexact HB0
    isplitl [HB1]; · iexact HB1
    isplitr [HW]
    · unfold wAll
      isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      iexact Q11
    iexact HW
  set_option sl_exec.maxSteps 1 in sl_exec
  ihave HI := (inv_four a c g8 g10) $$ [HI]
  · iexact HI
  unfold wAll
  icases HI with ⟨S2, S3, S4, S5, S6, ⟨%f7, %h7, S7⟩, ⟨%f8, S8⟩, S11, S13, HB0, HB1, ⟨Q0, Q1, Q2, Q3, Q4, Q5, Q6, Q7, Q8, Q9, Q10, Q11⟩, ⟨%Wt', HW⟩⟩
  set_option sl_exec.stopBefore "k0_part27" in sl_exec
  ihave S7 := (BIBase.Entails.of_eq (congrArg (at_ c lhsB) (lhs_full a 4 inb_S3x24x2048_S1x24x2048_0_0_0 inb_S3x24x2048_S1x24x2048_1_0_0 f7 h7
    (k0_pay63 (bodyRun.sl.r_11 a) (bodyRun.sl.r_12 a) (bodyRun.sl.r_13 a) k0_pay61 (scRow a 4 1))
    (k0_pay64 (bodyRun.sl.r_11 a) (bodyRun.sl.r_12 a) (bodyRun.sl.r_13 a) k0_pay61 (scRow a 4 1)) rfl rfl))) $$ [S7]
  · iexact S7
  sl_exec
  have e505 : bodyRun.sl.v505 a = accOf (LHS a 4 (act a 4)) (WBUF a 4) :=
    accOf_intro _ _ (bodyRun.sl.v340 a) (bodyRun.sl.v356 a) (bodyRun.sl.v372 a) (bodyRun.sl.v388 a) (bodyRun.sl.v404 a) (bodyRun.sl.v420 a) (bodyRun.sl.v436 a) (bodyRun.sl.v452 a) (bodyRun.sl.v468 a) (bodyRun.sl.v484 a) (bodyRun.sl.v500 a) (bodyRun.sl.v505 a)
      (View.readCov_cons_toLoadRect _ _ _ _) (View.readCov_cons_toLoadRect _ _ _ _) (View.readCov_cons_toLoadRect _ _ _ _) (View.readCov_cons_toLoadRect _ _ _ _) (View.readCov_cons_toLoadRect _ _ _ _) (View.readCov_cons_toLoadRect _ _ _ _) (View.readCov_cons_toLoadRect _ _ _ _) (View.readCov_cons_toLoadRect _ _ _ _) (View.readCov_cons_toLoadRect _ _ _ _) (View.readCov_cons_toLoadRect _ _ _ _) (View.readCov_cons_toLoadRect _ _ _ _) (View.readCov_cons_toLoadRect _ _ _ _)
  ihave HC := (dC_five c (CODES a) g8) $$ [HB0_dst0 HB0_src0 HB0_dst1 HB0_src1 HB0_dst2 HB0_src2 HB0_dst3 HB0_src3 HB0_dst4 HB0_src4]
  · unfold dC
    isplitl [HB0_dst0 HB0_src0]
    · isplitl [HB0_dst0]; · iexact HB0_dst0
      iexact HB0_src0
    isplitl [HB0_dst1 HB0_src1]
    · isplitl [HB0_dst1]; · iexact HB0_dst1
      iexact HB0_src1
    isplitl [HB0_dst2 HB0_src2]
    · isplitl [HB0_dst2]; · iexact HB0_dst2
      iexact HB0_src2
    isplitl [HB0_dst3 HB0_src3]
    · isplitl [HB0_dst3]; · iexact HB0_dst3
      iexact HB0_src3
    isplitl [HB0_dst4]; · iexact HB0_dst4
    iexact HB0_src4
  icases HC with ⟨H8, S10⟩
  ihave HN := (dN_five c (NSC a) g10) $$ [HB1_dst0 HB1_src0 HB1_dst1 HB1_src1 HB1_dst2 HB1_src2 HB1_dst3 HB1_src3 HB1_dst4 HB1_src4]
  · unfold dN
    isplitl [HB1_dst0 HB1_src0]
    · isplitl [HB1_dst0]; · iexact HB1_dst0
      iexact HB1_src0
    isplitl [HB1_dst1 HB1_src1]
    · isplitl [HB1_dst1]; · iexact HB1_dst1
      iexact HB1_src1
    isplitl [HB1_dst2 HB1_src2]
    · isplitl [HB1_dst2]; · iexact HB1_dst2
      iexact HB1_src2
    isplitl [HB1_dst3 HB1_src3]
    · isplitl [HB1_dst3]; · iexact HB1_dst3
      iexact HB1_src3
    isplitl [HB1_dst4]; · iexact HB1_dst4
    iexact HB1_src4
  icases HN with ⟨H10, S12⟩
  ihave S0 := (BIBase.Entails.of_eq (wB_slots c (WBUF a 4)).symm) $$ [Q0_dst Q1_dst Q2_dst Q3_dst Q4_dst Q5_dst Q6_dst Q7_dst Q8_dst Q9_dst Q10_dst Q11_dst]
  · isplitl [Q0_dst]; · iexact Q0_dst
    isplitl [Q1_dst]; · iexact Q1_dst
    isplitl [Q2_dst]; · iexact Q2_dst
    isplitl [Q3_dst]; · iexact Q3_dst
    isplitl [Q4_dst]; · iexact Q4_dst
    isplitl [Q5_dst]; · iexact Q5_dst
    isplitl [Q6_dst]; · iexact Q6_dst
    isplitl [Q7_dst]; · iexact Q7_dst
    isplitl [Q8_dst]; · iexact Q8_dst
    isplitl [Q9_dst]; · iexact Q9_dst
    isplitl [Q10_dst]; · iexact Q10_dst
    iexact Q11_dst
  ihave H3 := (wH_toks c a.W).2 $$ [Hdrop Q0_src Q1_src Q2_src Q3_src Q4_src Q5_src Q6_src Q7_src Q8_src Q9_src Q10_src Q11_src]
  · isplitl [Hdrop]; · iexact Hdrop
    isplitl [Q0_src]; · iexact Q0_src
    isplitl [Q1_src]; · iexact Q1_src
    isplitl [Q2_src]; · iexact Q2_src
    isplitl [Q3_src]; · iexact Q3_src
    isplitl [Q4_src]; · iexact Q4_src
    isplitl [Q5_src]; · iexact Q5_src
    isplitl [Q6_src]; · iexact Q6_src
    isplitl [Q7_src]; · iexact Q7_src
    isplitl [Q8_src]; · iexact Q8_src
    isplitl [Q9_src]; · iexact Q9_src
    isplitl [Q10_src]; · iexact Q10_src
    iexact Q11_src
  ihave H7 := (copied c yH g7 (YV a) (bodyRun.sl.dma64 a c fs9) ((yB_read c fs9 _).trans (congrArg (fun A => k0_pay81 A (wsRow a 4) (biRow a 4)) e505))) $$ [H7]
  · iexact H7
  ihave H9 := (copied c scalesH g9 (SCALES a) _ rfl) $$ [H9]
  · iexact H9
  ihave H11 := (copied c nssH g11 (NSS a) _ rfl) $$ [H11]
  · iexact H11
  sl_step
  iapply Hk
  isplitl [S0 S1 S2 S3 S4 S5 S6 S7 S8 S9 S10 S11 S12 S13]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexists _; iexact S12
    iexists _; iexact S13
  isplitl [Q0 Q1 Q2 Q3 Q4 Q5 Q6 Q7 Q8 Q9 Q10 Q11 Q12 Q13 Q14 Q15 Q16 Q17 HB0 HB1 Q20 Q21 Q22]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [HB0]; · iexact HB0
    isplitl [HB1]; · iexact HB1
    isplitl [Q20]; · iexact Q20
    isplitl [Q21]; · iexact Q21
    iexact Q22
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  isplitl [H8]; · iexact H8
  isplitl [H9]; · iexact H9
  isplitl [H10]; · iexact H10
  isplitl [H11]; · iexact H11
  iexists _; iexact HW

end Cert.KernelIdeal.Hand

end
-- ==== Proof.Ideal.Launch.lean ====
module

public import proofs.«01_k».proof.Proof.Ideal.Body
public import Idealize.ShloMosaic.Lib.Pipeline.FrameSuffixV
public import Idealize.ShloMosaic.Lib.Pipeline.FrameBody
public import proofs.«01_k».proof.Proof.Gen.KernelIdeal.Launch
public import proofs.«01_k».proof.Proof.Gen.KernelIdeal.Points
public import proofs.«01_k».proof.Proof.Gen.KernelIdeal.Frame

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What the launch holds: the DMA cells, the arrays read, the arrays written -/

/-- The kernel's DMA cells. -/
abbrev osem0 : Fin 23 → SemLoc sig := fun j => SemLoc.dma j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄) = cells c := by
  rw [Pipeline.ownSems0_eq_of_list c osem0 [0, 1, 2, 3, 4, 5, 6, 7, 8, 9, 10, 11, 12, 13, 14, 15, 16, 17, 18, 19, 20, 21, 22] (by decide) (by decide)]; rfl

/-- The arrays the transfers read, and the arrays they write. -/
def H0 : Finset (Ref sig .tc) := {main_v0, main_v1, main_v2, main_arg3, main_arg4, main_arg5, main_v3}
def R0 : Finset (Ref sig .tc) := {main_v4_0, main_v4_1, main_v4_2, main_v4_3, main_v4_4}
theorem H0_sub : H0 ⊆ Pipeline.restRefs sig (cfg0.spec) := by decide
theorem R0_sub : R0 ⊆ Pipeline.restRefs sig (cfg0.spec) \ H0 := by decide

theorem at_whole (c : Dev nD) (b : Ref sig .tc) {sp : Space} {S : Shape} {e : EltTy} (M : Memref sig .tc sp S e) (f : B (F := F) c M)
    (hM : M.view.set = Finset.univ) : (at_ c M f : sProp 𝕄) = ((M.view.loc (c : Thread nD τ)) ↦{fullShare} f) := by
  unfold at_; rw [hM]

variable (m : (ℓ : Loc nD τ sig) → Buf (Elt F) ℓ) (ρ : Dev nD → PrngReg)

/-- The call's seven arguments, as the host lines before it leave them. -/
def inOf (c : Dev nD) : In F := ⟨V m c main_v0, V m c main_v1, V m c main_v2, V m c main_arg3, V m c main_arg4, V m c main_arg5, V m c main_v3⟩

/-- What the call leaves in the arrays it writes. -/
def G (c : Dev nD) : (b : Ref sig .tc) → Buf (Elt F) ((c : Thread nD τ).loc b) :=
  Function.update (Function.update (Function.update (Function.update (Function.update (V m c)
    main_v4_0 (YV (inOf m c))) main_v4_1 (CODES (inOf m c))) main_v4_2 (SCALES (inOf m c))) main_v4_3 (NSC (inOf m c))) main_v4_4 (NSS (inOf m c))

theorem G_0 (c : Dev nD) : G m c main_v4_0 = YV (inOf m c) := by
  unfold G; rw [Function.update_of_ne (by decide), Function.update_of_ne (by decide), Function.update_of_ne (by decide), Function.update_of_ne (by decide), Function.update_self]
theorem G_1 (c : Dev nD) : G m c main_v4_1 = CODES (inOf m c) := by
  unfold G; rw [Function.update_of_ne (by decide), Function.update_of_ne (by decide), Function.update_of_ne (by decide), Function.update_self]
theorem G_2 (c : Dev nD) : G m c main_v4_2 = SCALES (inOf m c) := by
  unfold G; rw [Function.update_of_ne (by decide), Function.update_of_ne (by decide), Function.update_self]
theorem G_3 (c : Dev nD) : G m c main_v4_3 = NSC (inOf m c) := by
  unfold G; rw [Function.update_of_ne (by decide), Function.update_self]
theorem G_4 (c : Dev nD) : G m c main_v4_4 = NSS (inOf m c) := by
  unfold G; rw [Function.update_self]

theorem readPts_eq (c : Dev nD) :
    (bigSep H0 (fun b => ((c : Thread nD τ).loc b) ↦{fullShare} V m c b) : sProp 𝕄) = ins c (inOf m c) := by
  rw [BI.bigSep_eq_bigSepL_of_eq [main_v0, main_v1, main_v2, main_arg3, main_arg4, main_arg5, main_v3] (by decide) (by decide)]
  unfold ins at_
  simp only [Memref.view_whole, View.set_whole]
  rfl

theorem writePts_eq (c : Dev nD) (g : (b : Ref sig .tc) → Buf (Elt F) ((c : Thread nD τ).loc b)) :
    (bigSep R0 (fun b => ((c : Thread nD τ).loc b) ↦{fullShare} g b) : sProp 𝕄)
      = iprop(at_ c yH (g main_v4_0) ∗ at_ c codesH (g main_v4_1) ∗ at_ c scalesH (g main_v4_2) ∗ at_ c nscH (g main_v4_3) ∗ at_ c nssH (g main_v4_4)) := by
  rw [BI.bigSep_eq_bigSepL_of_eq [main_v4_0, main_v4_1, main_v4_2, main_v4_3, main_v4_4] (by decide) (by decide)]
  unfold at_
  simp only [Memref.view_whole, View.set_whole]
  rfl

theorem scr_eq (c : Dev nD) :
    (Pipeline.scopedRest (Ix := Unit) (Name := ℕ) (U := Pipeline.UD sig nD τ) (Lvl := ℕ) (Val := Elt F) (cfg0.spec) c : sProp 𝕄) = scr c := by
  rw [scopedRest0_eq]
  unfold scr at_
  simp only [Memref.view_whole, View.set_whole]

theorem PhiDRV0_eq (c : Dev nD) (g : (c : Dev nD) → (b : Ref sig .tc) → Buf (Elt F) ((c : Thread nD τ).loc b)) :
    (Pipeline.ΦDRV osem0 (cfg0.spec) H0 R0 (V m) g c : sProp 𝕄)
      = iprop(scr c ∗ cells c ∗ ins c (inOf m c) ∗ at_ c yH (g c main_v4_0) ∗ at_ c codesH (g c main_v4_1) ∗ at_ c scalesH (g c main_v4_2)
          ∗ at_ c nscH (g c main_v4_3) ∗ at_ c nssH (g c main_v4_4)) := by
  unfold Pipeline.ΦDRV
  rw [scr_eq, ownSems00_eq, readPts_eq, writePts_eq]

/-! ## The body obligation -/

def dats (_ : Fin 1) (c : Dev nD) : Pipeline.Dat τ (Elt F) Unit ℕ (Pipeline.UD sig nD τ) ℕ cfg0 c where
  A w := V m c (Pipeline.arrRef (cfg0.spec) w)
  after w t := w.elim0
  Φ t := Pipeline.ΦDRV osem0 (cfg0.spec) H0 R0 (V m) (if t.val = 0 then V m else G m) c
  q _ := fullShare
  owed _ := 0

theorem A_eq (c : Dev nD) (w : Fin cfg0.W) : (dats m 0 c).A w = V m c (Pipeline.arrRef (cfg0.spec) w) := by
  dsimp only [dats]

def bodyPre (c : Dev nD) (t : Fin cfg0.N) : sProp 𝕄 :=
  iprop((dats m 0 c).Φ t.castSucc ∗ (dats m 0 c).owesAt () t.castSucc)
def bodyPost (c : Dev nD) (t : Fin cfg0.N) : sProp 𝕄 :=
  iprop((dats m 0 c).Φ t.succ ∗ (dats m 0 c).owesAt () t.succ)

theorem sound_body (c : Dev nD) (t : Fin cfg0.N) :
    bodyPre m c t ⊢ wp frame (wpE (defs₀ (F := F)) 𝒱₀ (c : Thread nD τ) none) Set.univ (bodyAt0 t) (fun _ => bodyPost m c t) := by
  obtain rfl : t = t0_0 := by rcases t with ⟨t, ht⟩; have : t < 1 := ht; apply Fin.ext; show t = 0; omega
  unfold bodyPre bodyPost
  rw [show (dats m 0 c).Φ t0_0.castSucc = Pipeline.ΦDRV osem0 (cfg0.spec) H0 R0 (V m) (V m) c from rfl,
    show (dats m 0 c).Φ t0_0.succ = Pipeline.ΦDRV osem0 (cfg0.spec) H0 R0 (V m) (G m) c from rfl, PhiDRV0_eq, PhiDRV0_eq, G_0, G_1, G_2, G_3, G_4]
  unfold Pipeline.Dat.owesAt Pipeline.owesWithin
  rw [show (dats m 0 c).owed t0_0.castSucc = 0 from rfl, show (dats m 0 c).owed t0_0.succ = 0 from rfl]
  iintro ⟨⟨Hs, Hq, Hi, H7, H8, H9, H10, H11⟩, ⟨%W, -, HW⟩⟩
  iapply (bodyRun (inOf m c) c (V m c main_v4_0) (V m c main_v4_1) (V m c main_v4_2) (V m c main_v4_3) (V m c main_v4_4) W _)
  isplitl [Hs]; · iexact Hs
  isplitl [Hq]; · iexact Hq
  isplitl [Hi]; · iexact Hi
  isplitl [H7]; · iexact H7
  isplitl [H8]; · iexact H8
  isplitl [H9]; · iexact H9
  isplitl [H10]; · iexact H10
  isplitl [H11]; · iexact H11
  isplitl [HW]; · iexact HW
  iintro ⟨Hs, Hq, Hi, H7, H8, H9, H10, H11, ⟨%W', HW'⟩⟩
  isplitl [Hs Hq Hi H7 H8 H9 H10 H11]
  · isplitl [Hs]; · iexact Hs
    isplitl [Hq]; · iexact Hq
    isplitl [Hi]; · iexact Hi
    isplitl [H7]; · iexact H7
    isplitl [H8]; · iexact H8
    isplitl [H9]; · iexact H9
    isplitl [H10]; · iexact H10
    iexact H11
  · iexists W'; isplitr; · ipureintro; exact fun _ _ => Or.inl trivial
    iexact HW'

theorem defs₀_row (t : Fin cfg0.N) :
    defs₀ (F := F) .tc cfg0.body (cfg0.bodyArgs t (cfg0.slots t)) = bodyAt0 t := by
  unfold defs₀; rw [Defs.onTc_tc]

theorem no_windows (f : Fin cfg0.W → sProp 𝕄) : bigSep Finset.univ f = (iprop(emp) : sProp 𝕄) := by
  rw [show (Finset.univ : Finset (Fin cfg0.W)) = ∅ from rfl]; exact BI.bigSep_empty

theorem body_obligation (c : Dev nD) : Pipeline.BodyObligation (dats (F := F) m 0 c) (defs₀ (F := F)) 𝒱₀ () Set.univ := fun t => by
  rw [no_windows, no_windows, defs₀_row]
  refine triple_restated (sound_body m c t) rfl ?_ fun _ => ?_
  · unfold bodyPre; iintro ⟨H, H', -⟩; isplitl [H]; · iexact H
    iexact H'
  · unfold bodyPost; iintro ⟨H, H'⟩; isplitl [H]; · iexact H
    isplitl [H']; · iexact H'
    iempintro

/-! ## The run -/

theorem hmainD : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The buffers after the host lines that follow the call. -/
def fin (c : Dev nD) : Valuation τ sig (Elt F) :=
  StableHlo.after (List.flatten [hostOps1]) (Pipeline.withArrays (cfg0.spec) c (Pipeline.withR (V0 m c) R0 c (G m c)) fun w => (dats m 0 c).arrAt w cfg0.N)

set_option backward.isDefEq.respectTransparency.types false in
theorem run_main : θ_run defs (onTc (τ := τ) (main (F := F))) (s₀ m ρ) (fun r => (∀ c : Dev nD, ∀ b ∈ Pipeline.restRefs sig (cfg0.spec),
      r.2.mem ((c : Thread nD τ).loc b) = fin m c (Proc.devRef .tc b)) ∧ r.2.sem = fun _ => 0) :=
  Pipeline.θ_run_frame_dmaR_aroundV (Q' := _) cfgs (dats m) (0 : Fin 1) launch0 osem0 defs₀ 𝒱₀ ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmainD m) (hA := A_eq m) (hin := fun _ => .rfl) (hout := fun _ => .rfl) (hQ' := fun _ h => ⟨fun c b hb => (h.1 c).2 b hb, h.2⟩)

end Cert.KernelIdeal.Hand

end
-- ==== Proof.Ideal.Results.lean ====
module

public import proofs.«01_k».proof.Proof.Ideal.Launch
public import Idealize.ShloMosaic.Lib.Claim

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-! ## The arguments end as launched -/

/-- A buffer that no host line writes, and the call does not write, ends as launched. -/
theorem fin_keep (c : Dev nD) (b : Ref sig .tc) (hR : b ∉ R0)
    (h1 : ∀ op ∈ List.flatten [(hostOps1 : List (HloOp τ sig (Elt F)))], Proc.devRef .tc b ∉ op.writes) (hV : V m c b = m ((c : Thread nD τ).loc b)) :
    fin m c (Proc.devRef .tc b) = m ((c : Thread nD τ).loc b) := by
  unfold fin
  rw [StableHlo.after_of_forall_not_mem (b := Proc.devRef .tc b) _ _ h1,
    Pipeline.withArrays_of_ne _ c _ _ b (fun w => w.elim0), Pipeline.withR_of_not_mem _ _ _ _ b hR]
  exact hV

theorem not_written (b : Ref sig .tc) (h : b ≠ main_v5 ∧ b ≠ main_v6 ∧ b ≠ main_v7 ∧ b ≠ main_v8 ∧ b ≠ main_v9) :
    ∀ op ∈ List.flatten [(hostOps1 : List (HloOp τ sig (Elt F)))], Proc.devRef .tc b ∉ op.writes :=
  List.forall_iff_forall_mem.mp (by
    obtain ⟨h5, h6, h7, h8, h9⟩ := h
    simp only [hostOps1, List.flatten_cons, List.flatten_nil, List.append_nil, List.Forall, StableHlo.unary_writes, StableHlo.reshape_writes, Finset.mem_singleton]
    exact ⟨StableHlo.devRef_ne_of_ne h5, StableHlo.devRef_ne_of_ne h6, StableHlo.devRef_ne_of_ne h7, StableHlo.devRef_ne_of_ne h8, StableHlo.devRef_ne_of_ne h9⟩)

/-- THE FRAME of the kernel: it runs, its arguments end as launched, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨
    (h.1 c main_arg0 (Pipeline.mem_restRefs_of main_arg0 (by decide) (by decide))).trans (fin_keep m c main_arg0 (by decide) (not_written _ (by decide)) (V_main_arg0 m c)),
    (h.1 c main_arg1 (Pipeline.mem_restRefs_of main_arg1 (by decide) (by decide))).trans (fin_keep m c main_arg1 (by decide) (not_written _ (by decide)) (V_main_arg1 m c)),
    (h.1 c main_arg2 (Pipeline.mem_restRefs_of main_arg2 (by decide) (by decide))).trans (fin_keep m c main_arg2 (by decide) (not_written _ (by decide)) (V_main_arg2 m c)),
    (h.1 c main_arg3 (Pipeline.mem_restRefs_of main_arg3 (by decide) (by decide))).trans (fin_keep m c main_arg3 (by decide) (not_written _ (by decide)) (V_main_arg3 m c)),
    (h.1 c main_arg4 (Pipeline.mem_restRefs_of main_arg4 (by decide) (by decide))).trans (fin_keep m c main_arg4 (by decide) (not_written _ (by decide)) (V_main_arg4 m c)),
    (h.1 c main_arg5 (Pipeline.mem_restRefs_of main_arg5 (by decide) (by decide))).trans (fin_keep m c main_arg5 (by decide) (not_written _ (by decide)) (V_main_arg5 m c)),
    (h.1 c main_arg6 (Pipeline.mem_restRefs_of main_arg6 (by decide) (by decide))).trans (fin_keep m c main_arg6 (by decide) (not_written _ (by decide)) (V_main_arg6 m c))⟩, h.2⟩) (run_main m ρ)

/-! ## The results -/

/-- The buffers the host lines after the call read: the call's own results. -/
theorem after_call (c : Dev nD) (b : Ref sig .tc) (hR : b ∈ R0) :
    (Pipeline.withArrays (cfg0.spec) c (Pipeline.withR (V0 m c) R0 c (G m c)) (fun w => (dats m 0 c).arrAt w cfg0.N)) (Proc.devRef .tc b) = G m c b := by
  rw [Pipeline.withArrays_of_ne _ c _ _ b (fun w => w.elim0), Pipeline.withR_of_mem _ _ _ _ b hR]

theorem fin_5 (c : Dev nD) : fin m c (Proc.devRef .tc main_v5) = shapeCast S24x1x2048 (YV (inOf m c)) shapeCasts_S24x2048_S24x1x2048 := by
  unfold fin
  simp only [hostOps1, List.flatten_cons, List.flatten_nil, List.append_nil]
  after_results
  rw [after_call m c main_v4_0 (by decide), G_0]
  rfl
theorem fin_6 (c : Dev nD) : fin m c (Proc.devRef .tc main_v6) = shapeCast S5x24x1x2048 (CODES (inOf m c)) shapeCasts_S5x24x2048_S5x24x1x2048 := by
  unfold fin
  simp only [hostOps1, List.flatten_cons, List.flatten_nil, List.append_nil]
  after_results
  rw [after_call m c main_v4_1 (by decide), G_1]
  rfl
theorem fin_7 (c : Dev nD) : fin m c (Proc.devRef .tc main_v7) = transpose S5x24x1 [0, 2, 1] (SCALES (inOf m c)) transposes_S5x1x24_S5x24x1_0_2_1 := by
  unfold fin
  simp only [hostOps1, List.flatten_cons, List.flatten_nil, List.append_nil]
  after_results
  rw [after_call m c main_v4_2 (by decide), G_2]
theorem fin_8 (c : Dev nD) : fin m c (Proc.devRef .tc main_v8) = transpose S5x24x2x2048 [0, 2, 1, 3] (NSC (inOf m c)) transposes_S5x2x24x2048_S5x24x2x2048_0_2_1_3 := by
  unfold fin
  simp only [hostOps1, List.flatten_cons, List.flatten_nil, List.append_nil]
  after_results
  rw [after_call m c main_v4_3 (by decide), G_3]
theorem fin_9 (c : Dev nD) : fin m c (Proc.devRef .tc main_v9) = transpose S5x24x2 [0, 2, 1] (NSS (inOf m c)) transposes_S5x2x24_S5x24x2_0_2_1 := by
  unfold fin
  simp only [hostOps1, List.flatten_cons, List.flatten_nil, List.append_nil]
  after_results
  rw [after_call m c main_v4_4 (by decide), G_4]

/-! ## The call's arguments, by the launch's -/

/-- The call's arguments as functions of the program's: two reshapes and two transposes. -/
def inArgs (x : FVec F S24x1x2048 .bf16) (sc : Vec F S5x24x2x2048 .fp8e4m3) (ss : Vec F S5x24x2 .f32) (w : Vec F S5x3x2048x2048 .fp8e4m3)
    (ws : Vec F S5x2048 .f32) (bi : Vec F S5x2048 .f32) (pos : Vec F S24 .i32) : In F :=
  ⟨shapeCast S24x2048 x shapeCasts_S24x1x2048_S24x2048, transpose S5x2x24x2048 [0, 2, 1, 3] sc transposes_S5x24x2x2048_S5x2x24x2048_0_2_1_3,
    transpose S5x2x24 [0, 2, 1] ss transposes_S5x24x2_S5x2x24_0_2_1, w, ws, bi, shapeCast S1x24 pos shapeCasts_S24_S1x24⟩

theorem V_v0 (c : Dev nD) : V m c main_v0 = shapeCast S24x2048 (m ((c : Thread nD τ).loc main_arg0)) shapeCasts_S24x1x2048_S24x2048 := by
  unfold V V0
  simp only [hostOps0, List.flatten_cons, List.flatten_nil, List.append_nil]
  after_results
  rfl
theorem V_v1 (c : Dev nD) : V m c main_v1 = transpose S5x2x24x2048 [0, 2, 1, 3] (m ((c : Thread nD τ).loc main_arg1)) transposes_S5x24x2x2048_S5x2x24x2048_0_2_1_3 := by
  unfold V V0
  simp only [hostOps0, List.flatten_cons, List.flatten_nil, List.append_nil]
  after_results
theorem V_v2 (c : Dev nD) : V m c main_v2 = transpose S5x2x24 [0, 2, 1] (m ((c : Thread nD τ).loc main_arg2)) transposes_S5x24x2_S5x2x24_0_2_1 := by
  unfold V V0
  simp only [hostOps0, List.flatten_cons, List.flatten_nil, List.append_nil]
  after_results
theorem V_v3 (c : Dev nD) : V m c main_v3 = shapeCast S1x24 (m ((c : Thread nD τ).loc main_arg6)) shapeCasts_S24_S1x24 := by
  unfold V V0
  simp only [hostOps0, List.flatten_cons, List.flatten_nil, List.append_nil]
  after_results
  rfl

theorem inOf_eq (c : Dev nD) : inOf m c = inArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) := by
  unfold inOf inArgs
  rw [V_v0, V_v1, V_v2, V_v3, V_main_arg3, V_main_arg4, V_main_arg5]

end Cert.KernelIdeal.Hand

end
-- ==== Proof.Ideal.Twin.lean ====
/- The kernel before idealization is the same program text, so what is proved of the one is read at the other. -/
module

public import proofs.«01_k».proof.Proof.Ideal.Results
public import proofs.«01_k».proof.Proof.Gen.Kernel
public import Idealize.ShloMosaic.PureOps.BitExact

@[expose] public section

noncomputable section

namespace Cert.Kernel.Hand

open Cert.Kernel
open Idealize.ShloMosaic Idealize.ShloMosaic.TcCoe Idealize.SL.Sem

theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Cert.KernelIdeal.Hand.frame (F := Bits) m ρ

end Cert.Kernel.Hand

end
-- ==== Proof.Math.Expo.lean ====
/- The exponent of a row's scale, over the reals: counting the powers of two that are at most the row's scaled maximum
   gives the exponent that the reference reads off a logarithm. -/
module

public import Idealize.ShloMosaic.Lib.Pointwise
public import Idealize.ShloMosaic.Lib.IndicatorCount

@[expose] public section

noncomputable section

namespace Cert.Layer

open Idealize.ShloMosaic

/-! ## The bits of a power of two -/

theorem bit_fields : ∀ k : Fin 255, (BitVec.ofNat 32 (k.val * 2 ^ 23)).extractLsb' 31 1 = 0#1
    ∧ ((BitVec.ofNat 32 (k.val * 2 ^ 23)).extractLsb' 23 8).toNat = k.val ∧ ((BitVec.ofNat 32 (k.val * 2 ^ 23)).extractLsb' 0 23).toNat = 0 := by
  decide +kernel

/-- The 32-bit pattern with exponent field `k` and nothing else is `2 ^ (k - 127)`. -/
theorem pow2_bits (k : ℕ) (h1 : 1 ≤ k) (h2 : k ≤ 254) : Ideal.ofBits .f32 (BitVec.ofNat 32 (k * 2 ^ 23)) = (((2 : ℝ) ^ ((k : ℤ) - 127) : ℝ) : EReal) := by
  obtain ⟨hs, he, hf⟩ := bit_fields ⟨k, by omega⟩
  dsimp only at hs he hf
  have hx : ¬ (k = 2 ^ 8 - 1) := by omega
  have h0 : ¬ (k = 0) := by omega
  show Ideal.ieee 8 23 _ = _
  unfold Ideal.ieee
  simp only [Nat.reduceAdd, hs, he, hf, if_neg hx, if_neg h0]
  congr 1
  have e : ((k : ℤ) - (2 ^ (8 - 1) - 1) - (23 : ℕ)) = ((k : ℤ) - 127) - 23 := by norm_num
  rw [e, zpow_sub₀ (by norm_num : (2 : ℝ) ≠ 0)]
  norm_num
  ring

theorem shl_min : ∀ x : Fin 256, IntOp.shli .vector (IntOp.minsi (BitVec.ofNat 32 x.val) 253#32) 23#32 = BitVec.ofNat 32 (min x.val 253 * 2 ^ 23) := by
  decide +kernel
theorem shl_succ : ∀ k : Fin 253, IntOp.shli .vector (IntOp.addi (BitVec.ofNat 32 k.val) 1#32) 23#32 = BitVec.ofNat 32 ((k.val + 1) * 2 ^ 23) := by
  decide +kernel
theorem shl_sub : ∀ k : Fin 253, IntOp.shli .vector (IntOp.subi 253#32 (BitVec.ofNat 32 k.val)) 23#32 = BitVec.ofNat 32 ((253 - k.val) * 2 ^ 23) := by
  decide +kernel
theorem sgt_zero : ∀ x : Fin 256, IntOp.cmpi .sgt (BitVec.ofNat 32 x.val) 0#32 = BitVec.ofBool (decide (0 < x.val)) := by
  decide +kernel

/-! ## The count -/

/-- How many of the powers of two are at most `m`, as the kernel counts them. -/
def count (m : EReal) : BitVec 32 :=
  Finset.fold IntOp.addi (0#32) (fun x : Fin 256 =>
    Scalar.select (IntOp.andi (IntOp.cmpi .sgt (BitVec.ofNat 32 x.val) 0#32)
      (BitVec.ofBool (decide (Ideal.ofBits .f32 (IntOp.shli .vector (IntOp.minsi (BitVec.ofNat 32 x.val) 253#32) 23#32) ≤ m)))) 1#32 0#32) Finset.univ

/-- The kernel's exponent field. -/
def field (m : EReal) : BitVec 32 :=
  Scalar.select (IntOp.ori (IntOp.cmpi .eq (count m) 0#32) (IntOp.cmpi .eq (count m) 255#32)) 126#32 (count m)

/-- The reference's exponent. -/
def expo (m : EReal) : EReal :=
  Scalar.select (IntOp.ori (BitVec.ofBool (decide (m < Ideal.ofBits .f32 0x00800000#32))) (BitVec.ofBool (decide (Ideal.ofBits .f32 0x7E800000#32 ≤ m)))) 0
    (Ideal.liftRound Int.floor (Ideal.div (Ideal.log m) (Ideal.log (Ideal.ofBits .f32 0x40000000#32))) + 1)

theorem select_setWidth (p : BitVec 1) : Scalar.select p 1#32 0#32 = p.setWidth 32 := by revert p; decide

theorem card_upto : ∀ k : Fin 256, (Finset.univ.filter fun x : Fin 256 => 0 < x.val ∧ x.val ≤ k.val).card = k.val := by decide +kernel

/-- The count is `k` when exactly the exponents 1 to `k` count. -/
theorem count_eq (m : EReal) (k : Fin 256) (h : ∀ x : Fin 256, 0 < x.val → ((((2 : ℝ) ^ (((min x.val 253 : ℕ) : ℤ) - 127) : ℝ) : EReal) ≤ m ↔ x.val ≤ k.val)) :
    count m = BitVec.ofNat 32 k.val := by
  unfold count
  simp only [select_setWidth]
  rw [IndicatorCount.fold_addi_setWidth_eq_card]
  congr 1
  rw [← card_upto k]
  congr 1
  ext x
  simp only [Finset.mem_filter, Finset.mem_univ, true_and]
  rw [sgt_zero, shl_min]
  by_cases hx : 0 < x.val
  · rw [pow2_bits (min x.val 253) (by omega) (by omega)]
    have hh := h x hx
    by_cases hk : x.val ≤ k.val
    · rw [decide_eq_true hx, decide_eq_true (hh.mpr hk)]; exact iff_of_true (by decide) ⟨hx, hk⟩
    · rw [decide_eq_true hx, decide_eq_false (mt hh.mp hk)]; exact iff_of_false (by decide) fun h => hk h.2
  · simp [hx, IntOp.andi]

theorem field_eq_of_mem (m : EReal) (k : ℕ) (h1 : 1 ≤ k) (h2 : k ≤ 252) (h : count m = BitVec.ofNat 32 k) : field m = BitVec.ofNat 32 k := by
  unfold field
  rw [h]
  have : ∀ k : Fin 253, 1 ≤ k.val → Scalar.select (IntOp.ori (IntOp.cmpi .eq (BitVec.ofNat 32 k.val) 0#32) (IntOp.cmpi .eq (BitVec.ofNat 32 k.val) 255#32)) 126#32 (BitVec.ofNat 32 k.val)
      = BitVec.ofNat 32 k.val := by decide +kernel
  exact this ⟨k, by omega⟩ h1

theorem lo_bits : Ideal.ofBits .f32 0x00800000#32 = (((2 : ℝ) ^ (-126 : ℤ) : ℝ) : EReal) := pow2_bits 1 le_rfl (by omega)
theorem hi_bits : Ideal.ofBits .f32 0x7E800000#32 = (((2 : ℝ) ^ (126 : ℤ) : ℝ) : EReal) := pow2_bits 253 (by omega) (by omega)
theorem two_bits : Ideal.ofBits .f32 0x40000000#32 = ((2 : ℝ) : EReal) := (pow2_bits 128 (by omega) (by omega)).trans (by norm_num)

theorem two_le {a b : ℤ} (h : a ≤ b) : (((2 : ℝ) ^ a : ℝ) : EReal) ≤ (((2 : ℝ) ^ b : ℝ) : EReal) :=
  EReal.coe_le_coe_iff.mpr (zpow_le_zpow_right₀ (by norm_num) h)

theorem true_ori : ∀ p : BitVec 1, IntOp.ori (BitVec.ofBool true) p = 1#1 := by decide
theorem ori_true : ∀ p : BitVec 1, IntOp.ori p (BitVec.ofBool true) = 1#1 := by decide
theorem zero_real : (0 : EReal) = ((((126 : ℕ) : ℝ) - 126 : ℝ) : EReal) := by norm_num

/-- The kernel's exponent field and the reference's exponent say the same. -/
theorem field_expo (m : EReal) : ∃ k : ℕ, 1 ≤ k ∧ k ≤ 252 ∧ field m = BitVec.ofNat 32 k ∧ expo m = (((k : ℝ) - 126 : ℝ) : EReal) := by
  by_cases hlo : m < (((2 : ℝ) ^ (-126 : ℤ) : ℝ) : EReal)
  · refine ⟨126, by omega, by omega, ?_, ?_⟩
    · unfold field
      rw [count_eq m 0 fun x hx => iff_of_false (fun h => absurd (lt_of_le_of_lt ((two_le (by omega)).trans h) hlo) (lt_irrefl _)) (by show ¬ x.val ≤ 0; omega)]
      decide
    · unfold expo
      rw [lo_bits, decide_eq_true hlo, true_ori]
      exact zero_real
  by_cases hhi : (((2 : ℝ) ^ (126 : ℤ) : ℝ) : EReal) ≤ m
  · refine ⟨126, by omega, by omega, ?_, ?_⟩
    · unfold field
      rw [count_eq m 255 fun x hx => iff_of_true ((two_le (by omega)).trans hhi) (by show x.val ≤ 255; omega)]
      decide
    · unfold expo
      rw [lo_bits, hi_bits, decide_eq_true hhi, ori_true]
      exact zero_real
  push Not at hlo hhi
  induction m using EReal.rec with
  | bot => exact absurd (lt_of_lt_of_le (EReal.bot_lt_coe _) hlo) (lt_irrefl _)
  | top => exact absurd (lt_trans hhi (EReal.coe_lt_top _)) (lt_irrefl _)
  | coe r =>
    have hlo' := EReal.coe_le_coe_iff.mp hlo
    have hhi' := EReal.coe_lt_coe_iff.mp hhi
    have hr : 0 < r := lt_of_lt_of_le (by positivity) hlo'
    have hl2 : 0 < Real.log 2 := Real.log_pos (by norm_num)
    have hz1 : (2 : ℝ) ^ ⌊Real.log r * (Real.log 2)⁻¹⌋ ≤ r := by
      rw [← Real.log_le_log_iff (by positivity) hr, Real.log_zpow, ← le_div_iff₀ hl2, div_eq_mul_inv]
      exact Int.floor_le _
    have hz2 : r < (2 : ℝ) ^ (⌊Real.log r * (Real.log 2)⁻¹⌋ + 1) := by
      rw [← Real.log_lt_log_iff hr (by positivity), Real.log_zpow, ← div_lt_iff₀ hl2, div_eq_mul_inv]
      push_cast
      exact Int.lt_floor_add_one _
    generalize hfl : ⌊Real.log r * (Real.log 2)⁻¹⌋ = z at hz1 hz2
    have z1 : -126 ≤ z := by
      by_contra hc
      have := (zpow_le_zpow_right₀ (by norm_num : (1 : ℝ) ≤ 2) (by omega : z + 1 ≤ -126)).trans hlo'
      exact absurd (lt_of_lt_of_le hz2 this) (lt_irrefl _)
    have z2 : z ≤ 125 := by
      by_contra hc
      have := (zpow_le_zpow_right₀ (by norm_num : (1 : ℝ) ≤ 2) (by omega : 126 ≤ z)).trans hz1
      exact absurd (lt_of_lt_of_le hhi' this) (lt_irrefl _)
    obtain ⟨k, hk⟩ : ∃ k : ℕ, (k : ℤ) = z + 127 := ⟨(z + 127).toNat, by omega⟩
    refine ⟨k, by omega, by omega, field_eq_of_mem _ k (by omega) (by omega) (count_eq _ (⟨k, by omega⟩ : Fin 256) fun x hx => ?_), ?_⟩
    · rw [EReal.coe_le_coe_iff]
      show _ ↔ x.val ≤ k
      constructor
      · intro h
        by_contra hc
        have := (zpow_le_zpow_right₀ (by norm_num : (1 : ℝ) ≤ 2) (by omega : z + 1 ≤ ((min x.val 253 : ℕ) : ℤ) - 127)).trans h
        exact absurd (lt_of_lt_of_le hz2 this) (lt_irrefl _)
      · intro h
        exact (zpow_le_zpow_right₀ (by norm_num : (1 : ℝ) ≤ 2) (by omega : ((min x.val 253 : ℕ) : ℤ) - 127 ≤ z)).trans hz1
    · unfold expo
      rw [lo_bits, hi_bits, two_bits, decide_eq_false (not_lt.mpr hlo), decide_eq_false (not_le.mpr hhi)]
      have e1 : Ideal.log ((r : ℝ) : EReal) = (Real.log r : EReal) := if_neg (not_le.mpr hr)
      have e2 : Ideal.log ((2 : ℝ) : EReal) = (Real.log 2 : EReal) := if_neg (by norm_num)
      have e3 : Ideal.div (Real.log r : EReal) (Real.log 2 : EReal) = ((Real.log r * (Real.log 2)⁻¹ : ℝ) : EReal) := by
        unfold Ideal.div
        rw [if_neg (by exact_mod_cast hl2.ne'), ← EReal.coe_inv, ← EReal.coe_mul]
      rw [e1, e2, e3]
      show ((⌊Real.log r * (Real.log 2)⁻¹⌋ : ℝ) : EReal) + 1 = _
      rw [hfl]
      have : (k : ℝ) = (z : ℝ) + 127 := by exact_mod_cast hk
      rw [this, show (1 : EReal) = ((1 : ℝ) : EReal) from rfl, ← EReal.coe_add]
      congr 1; ring

/-- The scale: the kernel's bits are the reference's power. -/
theorem scale_eq (m : EReal) : Ideal.ofBits .f32 (IntOp.shli .vector (IntOp.addi (field m) 1#32) 23#32) = Ideal.exp2 (expo m) := by
  obtain ⟨k, h1, h2, hf, he⟩ := field_expo m
  rw [hf, he, shl_succ ⟨k, by omega⟩, pow2_bits (k + 1) (by omega) (by omega)]
  show _ = ((Real.rpow 2 ((k : ℝ) - 126) : ℝ) : EReal)
  congr 1
  show _ = (2 : ℝ) ^ ((k : ℝ) - 126)
  rw [← Real.rpow_intCast]
  congr 1; push_cast; ring

/-- And its inverse. -/
theorem inv_eq (m : EReal) : Ideal.ofBits .f32 (IntOp.shli .vector (IntOp.subi 253#32 (field m)) 23#32) = Ideal.exp2 (0 - expo m) := by
  obtain ⟨k, h1, h2, hf, he⟩ := field_expo m
  rw [hf, he, shl_sub ⟨k, by omega⟩, pow2_bits (253 - k) (by omega) (by omega)]
  rw [show (0 : EReal) = ((0 : ℝ) : EReal) from rfl, ← EReal.coe_sub]
  show _ = ((Real.rpow 2 (0 - ((k : ℝ) - 126)) : ℝ) : EReal)
  congr 1
  show _ = (2 : ℝ) ^ (0 - ((k : ℝ) - 126))
  rw [← Real.rpow_intCast]
  congr 1
  rw [Nat.cast_sub (by omega : k ≤ 253)]
  push_cast; ring

end Cert.Layer

end
-- ==== Proof.Math.Row.lean ====
/- A row's scale and codes over the reals, as both programs' values are compared by. -/
module

public import proofs.«01_k».proof.Proof.Math.Expo

@[expose] public section

noncomputable section

namespace Cert.Layer

open Idealize.ShloMosaic

/-- A batch of rows. -/
abbrev Rows : Type := (⟨2, ![24, 2048]⟩ : Shape).Idx → EReal

/-- A row's scaled absolute maximum. -/
def top (A : Rows) (i : Fin 24) : EReal :=
  Finset.fold max (Ideal.ofBits .f32 0xFF800000#32) (fun x : Fin 2048 => FloatOps.absf (F := Ideal) (φ := .f32) (A (ix2 i x))) Finset.univ * Ideal.ofBits .f32 0x3B124925#32

/-- A row's scale. -/
def scl (A : Rows) (i : Fin 24) : EReal := Ideal.exp2 (expo (top A i))

/-- A row's codes. -/
def code (A : Rows) (i : Fin 24) (x : Fin 2048) : EReal :=
  min (Ideal.ofBits .f32 0x43E00000#32) (max (Ideal.ofBits .f32 0xC3E00000#32) (A (ix2 i x) * Ideal.exp2 (0 - expo (top A i))))

/-- The activation. -/
def elu (v : EReal) : EReal :=
  Scalar.select (BitVec.ofBool (decide (Ideal.ofBits .f32 0x00000000#32 < v))) v (Ideal.exp v - Ideal.ofBits .f32 0x3F800000#32)

/-- A sum over 2048 in four runs of 512. -/
theorem sum_four (f : Fin 2048 → EReal) : ∑ x, f x = ∑ k : Fin 512, f ⟨k.val, by omega⟩ + ∑ k : Fin 512, f ⟨512 + k.val, by omega⟩
    + (∑ k : Fin 512, f ⟨1024 + k.val, by omega⟩ + ∑ k : Fin 512, f ⟨1536 + k.val, by omega⟩) := by
  have h := Fin.sum_univ_add (a := 1024) (b := 1024) f
  have h1 := Fin.sum_univ_add (a := 512) (b := 512) fun i : Fin 1024 => f (Fin.castAdd 1024 i)
  have h2 := Fin.sum_univ_add (a := 512) (b := 512) fun i : Fin 1024 => f (Fin.natAdd 1024 i)
  refine h.trans ((congrArg₂ (· + ·) h1 h2).trans ?_)
  refine congrArg₂ (· + ·) (congrArg₂ (· + ·) rfl rfl) (congrArg₂ (· + ·) rfl ?_)
  refine Finset.sum_congr rfl fun k _ => congrArg f (Fin.ext ?_)
  show 1024 + (512 + k.val) = 1536 + k.val; omega

end Cert.Layer

end
-- ==== Proof.Math.Elu.lean ====
/- The activation, the sums over a diagonal and the parities, one value at a time. -/
module

public import Idealize.ShloMosaic.Lib.Pointwise
public import Idealize.ShloMosaic.Lib.IdealHost

@[expose] public section

noncomputable section

namespace Cert.Layer

open Idealize.ShloMosaic

theorem half_bits : Ideal.ofBits .f32 0x3F000000#32 = ((1 / 2 : ℝ) : EReal) := by
  simp [Ideal.ofBits, Ideal.ieee, -EReal.coe_mul]; norm_num
theorem two_bits' : Ideal.ofBits .f32 0x40000000#32 = ((2 : ℝ) : EReal) := by
  simp [Ideal.ofBits, Ideal.ieee, -EReal.coe_mul]; norm_num

/-- Over the reals `2 tanh (v / 2) / (1 - tanh (v / 2))` is `exp v - 1`. -/
theorem tanh_exp (v : ℝ) : 2 * Real.tanh (v * (1 / 2)) * (1 - Real.tanh (v * (1 / 2)))⁻¹ = Real.exp v - 1 ∧ 1 - Real.tanh (v * (1 / 2)) ≠ 0 := by
  have hp := Real.exp_pos (v * (1 / 2))
  have hn := Real.exp_pos (-(v * (1 / 2)))
  have hc : Real.exp (v * (1 / 2)) + Real.exp (-(v * (1 / 2))) ≠ 0 := by positivity
  have e : 1 - Real.tanh (v * (1 / 2)) = 2 * Real.exp (-(v * (1 / 2))) / (Real.exp (v * (1 / 2)) + Real.exp (-(v * (1 / 2)))) := by
    rw [Real.tanh_eq_sinh_div_cosh, Real.sinh_eq, Real.cosh_eq]; field_simp; ring
  have e' : Real.tanh (v * (1 / 2)) = (Real.exp (v * (1 / 2)) - Real.exp (-(v * (1 / 2)))) / (Real.exp (v * (1 / 2)) + Real.exp (-(v * (1 / 2)))) := by
    rw [Real.tanh_eq_sinh_div_cosh, Real.sinh_eq, Real.cosh_eq]; field_simp
  have ev : Real.exp v = Real.exp (v * (1 / 2)) * (Real.exp (-(v * (1 / 2))))⁻¹ := by
    rw [← Real.exp_neg, ← Real.exp_add]; congr 1; ring
  refine ⟨?_, by rw [e]; positivity⟩
  rw [e, e', ev]; field_simp

/-- The kernel's activation is the reference's. -/
theorem elu_eq (v : EReal) :
    Scalar.select (BitVec.ofBool (decide (Ideal.ofBits .f32 0x00000000#32 < v))) v
      (Ideal.div (Ideal.ofBits .f32 0x40000000#32 * Ideal.tanh (v * Ideal.ofBits .f32 0x3F000000#32))
        (Ideal.ofBits .f32 0x3F800000#32 - Ideal.tanh (v * Ideal.ofBits .f32 0x3F000000#32)))
    = Scalar.select (BitVec.ofBool (decide (Ideal.ofBits .f32 0x00000000#32 < v))) v (Ideal.exp v - Ideal.ofBits .f32 0x3F800000#32) := by
  rw [half_bits, two_bits', Ideal.ofBits_zero_f32, Ideal.ofBits_one_f32]
  by_cases h : 0 < v
  · rw [decide_eq_true h]; rfl
  rw [decide_eq_false h]
  show Ideal.div _ _ = Ideal.exp v - 1
  have one : (1 : EReal) = ((1 : ℝ) : EReal) := rfl
  induction v using EReal.rec with
  | top => exact absurd EReal.zero_lt_top h
  | bot =>
    rw [EReal.bot_mul_coe_of_pos (by norm_num)]
    show Ideal.div (((2 : ℝ) : EReal) * -1) (1 - -1) = 0 - 1
    have e : (1 : EReal) - -1 = ((2 : ℝ) : EReal) := by rw [one, ← EReal.coe_neg, ← EReal.coe_sub]; norm_num
    rw [e]; unfold Ideal.div
    rw [if_neg (by norm_num), one, ← EReal.coe_neg, ← EReal.coe_mul, ← EReal.coe_inv, ← EReal.coe_mul, show (0 : EReal) = ((0 : ℝ) : EReal) from rfl, ← EReal.coe_sub]
    norm_num
  | coe r =>
    obtain ⟨e, hne⟩ := tanh_exp r
    rw [← EReal.coe_mul]
    show Ideal.div (((2 : ℝ) : EReal) * (Real.tanh (r * (1 / 2)) : EReal)) (1 - (Real.tanh (r * (1 / 2)) : EReal)) = (Real.exp r : EReal) - 1
    rw [one, ← EReal.coe_mul, ← EReal.coe_sub, ← EReal.coe_sub]
    unfold Ideal.div
    rw [if_neg (by exact_mod_cast hne), ← EReal.coe_inv, ← EReal.coe_mul, e]

/-! ## A sum over a diagonal -/

theorem cmp_ij : ∀ i x : Fin 24, IntOp.cmpi .eq (BitVec.ofNat 32 i.val) (BitVec.ofNat 32 x.val) = BitVec.ofBool (decide (x = i)) := by decide +kernel
theorem cmp_ji : ∀ i x : Fin 24, IntOp.cmpi .eq (BitVec.ofNat 32 x.val) (BitVec.ofNat 32 i.val) = BitVec.ofBool (decide (x = i)) := by decide +kernel

theorem sel_ite {α : Type} (p : Prop) [Decidable p] (a b : α) : Scalar.select (BitVec.ofBool (decide p)) a b = if p then a else b := by
  by_cases h : p
  · rw [decide_eq_true h, if_pos h]; rfl
  · rw [decide_eq_false h, if_neg h]; rfl

theorem eye_row (i : Fin 24) (f : Fin 24 → EReal) :
    ∑ x : Fin 24, Scalar.select (IntOp.cmpi .eq (BitVec.ofNat 32 i.val) (BitVec.ofNat 32 x.val)) (f x) 0 = f i := by
  simp only [cmp_ij, sel_ite]; simp
theorem eye_col (i : Fin 24) (f : Fin 24 → EReal) :
    ∑ x : Fin 24, Scalar.select (IntOp.cmpi .eq (BitVec.ofNat 32 x.val) (BitVec.ofNat 32 i.val)) (f x) 0 = f i := by
  simp only [cmp_ji, sel_ite]; simp
theorem eye_int (i : Fin 24) (f : Fin 24 → BitVec 32) :
    Finset.fold IntOp.addi (0#32) (fun x : Fin 24 => Scalar.select (IntOp.cmpi .eq (BitVec.ofNat 32 i.val) (BitVec.ofNat 32 x.val)) (f x) 0#32) Finset.univ = f i := by
  simp only [cmp_ij, sel_ite]
  have h : ∀ S : Finset (Fin 24), Finset.fold IntOp.addi (0#32) (fun x : Fin 24 => if x = i then f x else 0#32) S = if i ∈ S then f i else 0#32 := by
    intro S
    induction S using Finset.induction_on with
    | empty => rfl
    | insert a S ha ih =>
      rw [Finset.fold_insert ha, ih]
      by_cases e : a = i
      · subst e
        rw [if_pos rfl, if_neg ha, if_pos (Finset.mem_insert_self _ _)]
        exact BitVec.add_zero _
      · rw [if_neg e]
        have : (i ∈ insert a S) ↔ i ∈ S := by simp [Finset.mem_insert, Ne.symm e]
        simp only [this]
        exact BitVec.zero_add _
  rw [h, if_pos (Finset.mem_univ _)]

end Cert.Layer

end
-- ==== Proof.Math.Parity.lean ====
/- The parity of a position, as the kernel takes it from the lowest bit and the reference from a remainder. -/
module

public import Idealize.ShloMosaic.Lib.Pointwise

@[expose] public section

noncomputable section

namespace Cert.Layer

open Idealize.ShloMosaic

/-- The reference's two. -/
abbrev two : BitVec 32 := Scalar.select (Scalar.cmpi .eq 2#32 0#32) 1#32 2#32

/-- The reference's test that the remainder of `v` by two is one. -/
def odd (v : BitVec 32) : BitVec 1 :=
  IntOp.cmpi .eq
    (Scalar.select
      (IntOp.andi (IntOp.xori (IntOp.cmpi .slt (IntOp.remsi .vector v two) 0#32) (Scalar.cmpi .slt two 0#32)) (IntOp.cmpi .ne (IntOp.remsi .vector v two) 0#32))
      (IntOp.addi (IntOp.remsi .vector v two) two) (IntOp.remsi .vector v two)) 1#32

theorem two_eq : two = 2#32 := by decide

theorem rem_cases (v : BitVec 32) : (v.toNat % 2 = 0 ∧ IntOp.remsi .vector v two = 0#32) ∨ (v.toNat % 2 = 1 ∧ (IntOp.remsi .vector v two = 1#32 ∨ IntOp.remsi .vector v two = -1#32)) := by
  have hr : IntOp.remsi .vector v two = v.srem 2#32 := by
    rw [two_eq]; unfold IntOp.remsi
    rw [if_neg]
    unfold IntOp.SDivCorner
    rintro (h | ⟨-, h⟩) <;> exact absurd h (by decide)
  rw [hr]
  have ht : (v.srem 2#32).toInt = v.toInt.tmod 2 := BitVec.toInt_srem v 2#32
  have hv := BitVec.toInt_eq_toNat_cond v
  have hl := v.isLt
  have hm : v.toInt % 2 = (v.toNat % 2 : ℕ) := by
    rw [hv]; split <;> omega
  have e0 : (v.srem 2#32).toInt = 0 → v.srem 2#32 = 0#32 := fun h => BitVec.eq_of_toInt_eq (h.trans (by decide))
  have e1 : (v.srem 2#32).toInt = 1 → v.srem 2#32 = 1#32 := fun h => BitVec.eq_of_toInt_eq (h.trans (by decide))
  have e2 : (v.srem 2#32).toInt = -1 → v.srem 2#32 = -1#32 := fun h => BitVec.eq_of_toInt_eq (h.trans (by decide))
  rw [ht] at e0 e1 e2
  have d := Int.mul_tdiv_add_tmod v.toInt 2
  have b1 : v.toInt.tmod 2 < 2 := Int.tmod_lt_of_pos _ (by norm_num)
  have b2 : -2 < v.toInt.tmod 2 := Int.lt_tmod_of_pos _ (by norm_num)
  generalize v.toInt.tdiv 2 = q at d
  have hc : v.toInt.tmod 2 = 0 ∨ v.toInt.tmod 2 = 1 ∨ v.toInt.tmod 2 = -1 := by omega
  rcases hc with h | h | h
  · exact .inl ⟨by omega, e0 h⟩
  · exact .inr ⟨by omega, .inl (e1 h)⟩
  · exact .inr ⟨by omega, .inr (e2 h)⟩

theorem odd_eq (v : BitVec 32) : odd v = BitVec.ofBool (decide (v.toNat % 2 = 1)) := by
  unfold odd
  rcases rem_cases v with ⟨h, e⟩ | ⟨h, e | e⟩ <;> rw [e, h] <;> decide

theorem and_one (v : BitVec 32) : (IntOp.andi v 1#32).toNat = v.toNat % 2 := by
  show (v &&& 1#32).toNat = _
  rw [BitVec.toNat_and]
  exact Nat.and_one_is_mod _

/-- The kernel's tests of the lowest bit. -/
theorem bit_one (v : BitVec 32) : IntOp.cmpi .eq (IntOp.andi v 1#32) 1#32 = BitVec.ofBool (decide (v.toNat % 2 = 1)) := by
  rcases Nat.mod_two_eq_zero_or_one v.toNat with h | h
  · rw [show IntOp.andi v 1#32 = 0#32 from BitVec.eq_of_toNat_eq ((and_one v).trans h), h]; decide
  · rw [show IntOp.andi v 1#32 = 1#32 from BitVec.eq_of_toNat_eq ((and_one v).trans h), h]; decide
theorem bit_zero (v : BitVec 32) : IntOp.cmpi .eq (IntOp.andi v 1#32) 0#32 = BitVec.ofBool (decide (v.toNat % 2 = 0)) := by
  rcases Nat.mod_two_eq_zero_or_one v.toNat with h | h
  · rw [show IntOp.andi v 1#32 = 0#32 from BitVec.eq_of_toNat_eq ((and_one v).trans h), h]; decide
  · rw [show IntOp.andi v 1#32 = 1#32 from BitVec.eq_of_toNat_eq ((and_one v).trans h), h]; decide

/-- The four tests of the reference, by the position's parity. -/
theorem odd_add0 (p : BitVec 32) : odd (IntOp.addi p 0#32) = BitVec.ofBool (decide (p.toNat % 2 = 1)) := by
  rw [show IntOp.addi p 0#32 = p from BitVec.add_zero p, odd_eq]
theorem odd_add1 (p : BitVec 32) : odd (IntOp.addi p 1#32) = BitVec.ofBool (decide (p.toNat % 2 = 0)) := by
  rw [odd_eq]
  have : (IntOp.addi p 1#32).toNat = (p.toNat + 1) % 2 ^ 32 := BitVec.toNat_add p 1#32
  congr 1; rw [this]; apply decide_eq_decide.mpr; omega
theorem odd_slot (s : Fin 2) (p : BitVec 32) : odd (IntOp.subi (IntOp.subi (BitVec.ofNat 32 s.val) p) 1#32) = BitVec.ofBool (decide (p.toNat % 2 = s.val)) := by
  rw [odd_eq]
  have h1 : (IntOp.subi (BitVec.ofNat 32 s.val) p).toNat = (2 ^ 32 - p.toNat + (BitVec.ofNat 32 s.val).toNat) % 2 ^ 32 := BitVec.toNat_sub _ _
  have h2 : (IntOp.subi (IntOp.subi (BitVec.ofNat 32 s.val) p) 1#32).toNat = (2 ^ 32 - 1 + (IntOp.subi (BitVec.ofNat 32 s.val) p).toNat) % 2 ^ 32 := BitVec.toNat_sub _ _
  have h3 : (BitVec.ofNat 32 s.val).toNat = s.val := by rw [BitVec.toNat_ofNat]; omega
  have hp := p.isLt
  congr 1; rw [h2, h1, h3]; apply decide_eq_decide.mpr; omega

end Cert.Layer

end
-- ==== Proof.Ideal.Values.lean ====
/- The kernel's layer functions over the reals, one value at a time. -/
module

public import proofs.«01_k».proof.Proof.Ideal.Results
public import proofs.«01_k».proof.Proof.Math.Row
public import proofs.«01_k».proof.Proof.Math.Elu
public import proofs.«01_k».proof.Proof.Math.Parity
public import Idealize.ShloMosaic.Lib.Pointwise

@[expose] public section

set_option maxRecDepth 16384

noncomputable section

namespace Cert.KernelIdeal.Hand

open Cert.KernelIdeal Cert.KernelIdeal.Gen
open Idealize.ShloMosaic
open Idealize.ShloMosaic.TcCoe
open Idealize.SL.Sem

open Cert.Layer (Rows top scl code elu)

section Quant

variable (A : FVec Ideal S24x2048 .f32)

theorem field_at (j : S24x1.Idx) : k0_pay25 (emask A) 1#32 0#32 j = Layer.field (top A (j 0)) := by
  pointwise [k0_pay25, emask]
  rfl
theorem scaleV_at (j : S24x1.Idx) : scaleV A j = scl A (j 0) := by
  pointwise [scaleV, k0_pay26]
  rw [field_at]; exact Layer.scale_eq _
theorem codesV_at (j : S24x2048.Idx) : codesV A j = code A (j 0) (j 1) := by
  pointwise [codesV, k0_pay27]
  rw [field_at]
  have h := Layer.inv_eq (top A (j 0))
  rw [eq_ix2 j]
  exact congrArg (fun z => min _ (max _ (A (ix2 (j 0) (j 1)) * z))) h
theorem codesSlab_at (j : S1x24x2048.Idx) : codesSlab A j = code A (j 1) (j 2) := by
  have h : codesSlab A j = codesV A (ix2 (j 1) (j 2)) := by
    unfold codesV; pointwise [codesSlab, k0_pay28]
  rw [h, codesV_at]; rfl
theorem winV_at (j : S1x24x2048.Idx) : winV A j = code A (j 1) (j 2) * scl A (j 1) := by
  have h : winV A j = codesV A (ix2 (j 1) (j 2)) * scaleV A (ix2 (j 1) 0) := by
    unfold codesV scaleV; pointwise [winV, k0_pay29]
  rw [h, codesV_at, scaleV_at]; rfl
theorem scaleRow_at (j : S1x24.Idx) : scaleRow A j = scl A (j 1) := by
  pointwise [scaleRow, k0_pay31, k0_pay30]
  exact (Layer.eye_col (j 1) fun x => scaleV A (ix2 x 0)).trans (scaleV_at A _)
theorem scaleSlab_at (j : S1x1x24.Idx) : scaleSlab A j = scl A (j 2) := by
  have h : scaleSlab A j = scaleRow A (ix2 0 (j 2)) := by
    unfold scaleRow; pointwise [scaleSlab, k0_pay32]
  rw [h, scaleRow_at]; rfl

end Quant

section Rows

variable (a : In Ideal) (l : Fin 5)

theorem ssRow_at (s : Fin 2) (j : S1x1x24.Idx) : ssRow a l s j = a.SS (ix3 l s (j 2)) := by
  unfold ssRow; refine congrArg a.SS (funext fun b => Fin.ext ?_)
  match b with
  | ⟨0, _⟩ => show l.val + 1 * (j 0).val = l.val; have : (j 0).val < 1 := (j 0).isLt; omega
  | ⟨1, _⟩ => show s.val + 1 * (j 1).val = s.val; have : (j 1).val < 1 := (j 1).isLt; omega
  | ⟨2, _⟩ => show 0 + 1 * (j 2).val = (j 2).val; omega
theorem scRow_at (s : Fin 2) (j : S1x1x24x2048.Idx) : scRow a l s j = a.SC (ix4 l s (j 2) (j 3)) := by
  unfold scRow; refine congrArg a.SC (funext fun b => Fin.ext ?_)
  match b with
  | ⟨0, _⟩ => show l.val + 1 * (j 0).val = l.val; have : (j 0).val < 1 := (j 0).isLt; omega
  | ⟨1, _⟩ => show s.val + 1 * (j 1).val = s.val; have : (j 1).val < 1 := (j 1).isLt; omega
  | ⟨2, _⟩ => show 0 + 1 * (j 2).val = (j 2).val; omega
  | ⟨3, _⟩ => show 0 + 1 * (j 3).val = (j 3).val; omega
theorem row_at (X : Vec Ideal S5x2048 .f32) (j : S1x2048.Idx) (b : Fin 2) : (![l.val, 0] : Fin 2 → ℕ) b + 1 * (j b).val = ((ix2 l (j 1) : S5x2048.Idx) b).val := by
  match b with
  | ⟨0, _⟩ => show l.val + 1 * (j 0).val = l.val; have : (j 0).val < 1 := (j 0).isLt; omega
  | ⟨1, _⟩ => show 0 + 1 * (j 1).val = (j 1).val; omega
theorem wsRow_at (j : S1x2048.Idx) : wsRow a l j = a.WS (ix2 l (j 1)) := by
  unfold wsRow; exact congrArg a.WS (funext fun b => Fin.ext (row_at l a.WS j b))
theorem biRow_at (j : S1x2048.Idx) : biRow a l j = a.Bi (ix2 l (j 1)) := by
  unfold biRow; exact congrArg a.Bi (funext fun b => Fin.ext (row_at l a.Bi j b))
theorem posRow_at (j : S1x24.Idx) : posRow a j = a.POS j := by
  unfold posRow; refine congrArg a.POS (funext fun b => Fin.ext ?_)
  match b with
  | ⟨0, _⟩ => show 0 + 1 * (j 0).val = (j 0).val; omega
  | ⟨1, _⟩ => show 0 + 1 * (j 1).val = (j 1).val; omega
theorem xAll_at (j : S24x2048.Idx) : xAll a j = a.X j := by
  unfold xAll; refine congrArg a.X (funext fun b => Fin.ext ?_)
  match b with
  | ⟨0, _⟩ => show 0 + 1 * (j 0).val = (j 0).val; omega
  | ⟨1, _⟩ => show 0 + 1 * (j 1).val = (j 1).val; omega

/-- The parity of a row's position. -/
def par (i : Fin 24) : ℕ := (a.POS (ix2 0 i) : BitVec 32).toNat % 2

/-- A slot of the state, its codes times its scale. -/
def slot (s : Fin 2) (i : Fin 24) (x : Fin 2048) : EReal := (a.SC (ix4 l s i x) : EReal) * a.SS (ix3 l s i)

theorem hist0_at (j : S1x24x2048.Idx) : hist0 a l j = if par a (j 1) = 1 then slot a l 1 (j 1) (j 2) else slot a l 0 (j 1) (j 2) := by
  pointwise [hist0, k0_pay4, k0_pay1, k0_pay2, k0_pay3]
  erw [Layer.eye_int (j 1) fun x => posRow a (ix2 0 x), Layer.eye_row (j 1) fun x => ssRow a l 1 (ix3 0 0 x), Layer.eye_row (j 1) fun x => ssRow a l 0 (ix3 0 0 x)]
  rw [Layer.bit_one, Layer.sel_ite, posRow_at, scRow_at, scRow_at, ssRow_at, ssRow_at]
  rfl
theorem hist1_at (j : S1x24x2048.Idx) : hist1 a l j = if par a (j 1) = 1 then slot a l 0 (j 1) (j 2) else slot a l 1 (j 1) (j 2) := by
  pointwise [hist1, k0_pay5, k0_pay1, k0_pay2, k0_pay3]
  erw [Layer.eye_int (j 1) fun x => posRow a (ix2 0 x), Layer.eye_row (j 1) fun x => ssRow a l 1 (ix3 0 0 x), Layer.eye_row (j 1) fun x => ssRow a l 0 (ix3 0 0 x)]
  rw [Layer.bit_one, Layer.sel_ite, posRow_at, scRow_at, scRow_at, ssRow_at, ssRow_at]
  rfl

end Rows

end Cert.KernelIdeal.Hand

end
-- ==== Proof.Ideal.Layers.lean ====
/- The kernel's twelve products, its layers and its results over the reals, one value at a time. -/
module

public import proofs.«01_k».proof.Proof.Ideal.Values

@[expose] public section

set_option maxRecDepth 16384

noncomputable section

namespace Cert.KernelIdeal.Hand

open Cert.KernelIdeal Cert.KernelIdeal.Gen
open Idealize.ShloMosaic
open Idealize.ShloMosaic.TcCoe
open Idealize.SL.Sem

open Cert.Layer (Rows top scl code elu)

/-! ## The twelve products -/

theorem lch_at (L : Vec Ideal S3x24x2048 .bf16) (j : Fin 12) (y : S1x24x512.Idx) :
    lch L j y = L (ix3 (⟨j.val / 4, by omega⟩ : Fin 3) (y 1) (⟨512 * (j.val % 4) + (y 2).val, by have : (y 2).val < 512 := (y 2).isLt; omega⟩ : Fin 2048)) := by
  unfold lch; refine congrArg L (funext fun b => Fin.ext ?_)
  match b with
  | ⟨0, _⟩ => show j.val / 4 + 1 * (y 0).val = j.val / 4; have : (y 0).val < 1 := (y 0).isLt; omega
  | ⟨1, _⟩ => show 0 + 1 * (y 1).val = (y 1).val; omega
  | ⟨2, _⟩ => show 512 * (j.val % 4) + 1 * (y 2).val = 512 * (j.val % 4) + (y 2).val; omega
theorem wch_at (W : Vec Ideal S12x512x2048 .fp8e4m3) (j : Fin 12) (y : S1x512x2048.Idx) : wch W j y = W (ix3 j (y 1) (y 2)) := by
  unfold wch; refine congrArg W (funext fun b => Fin.ext ?_)
  match b with
  | ⟨0, _⟩ => show j.val + 1 * (y 0).val = j.val; have : (y 0).val < 1 := (y 0).isLt; omega
  | ⟨1, _⟩ => show 0 + 1 * (y 1).val = (y 1).val; omega
  | ⟨2, _⟩ => show 0 + 1 * (y 2).val = (y 2).val; omega

theorem regroup (d0 d1 d2 d3 d4 d5 d6 d7 d8 d9 d10 d11 : EReal) :
    d0 + d1 + d2 + d3 + d4 + d5 + d6 + d7 + d8 + d9 + d10 + d11
      = (d0 + d1 + (d2 + d3)) + (d4 + d5 + (d6 + d7)) + (d8 + d9 + (d10 + d11)) := by simp only [add_assoc]

/-- One product of a chunk of the window with a chunk of the weights. -/
def dotc (L : Vec Ideal S3x24x2048 .bf16) (W : Vec Ideal S12x512x2048 .fp8e4m3) (c : Fin 12) (i : Fin 24) (n : Fin 2048) : EReal :=
  ∑ k : Fin 512, lch L c (ix3 0 i k) * wch W c (ix3 0 k n)

theorem acc_chunks (L : Vec Ideal S3x24x2048 .bf16) (W : Vec Ideal S12x512x2048 .fp8e4m3) (j : S24x2048.Idx) :
    accOf L W j = dotc L W 0 (j 0) (j 1) + dotc L W 1 (j 0) (j 1) + dotc L W 2 (j 0) (j 1) + dotc L W 3 (j 0) (j 1) + dotc L W 4 (j 0) (j 1)
      + dotc L W 5 (j 0) (j 1) + dotc L W 6 (j 0) (j 1) + dotc L W 7 (j 0) (j 1) + dotc L W 8 (j 0) (j 1) + dotc L W 9 (j 0) (j 1)
      + dotc L W 10 (j 0) (j 1) + dotc L W 11 (j 0) (j 1) := by
  unfold dotc
  pointwise [accOf, k0_pay6, k0_pay7, k0_pay8, k0_pay9, k0_pay10, k0_pay11, k0_pay12, k0_pay13, k0_pay14, k0_pay15, k0_pay16, k0_pay17, k0_pay18, k0_pay19, k0_pay20, k0_pay21, k0_pay22]

variable (a : In Ideal) (l : Fin 5) (A : FVec Ideal S24x2048 .f32)

/-- The product of one row of the window with its tap of the weights. -/
def tap (L : Vec Ideal S3x24x2048 .bf16) (s : Fin 3) (i : Fin 24) (n : Fin 2048) : EReal := ∑ x : Fin 2048, L (ix3 s i x) * (a.W (ix4 l s x n) : EReal)

theorem dotc_at (L : Vec Ideal S3x24x2048 .bf16) (c : Fin 12) (i : Fin 24) (n : Fin 2048) :
    dotc L (WBUF a l) c i n = ∑ k : Fin 512, L (ix3 (⟨c.val / 4, by omega⟩ : Fin 3) i (⟨512 * (c.val % 4) + k.val, by omega⟩ : Fin 2048))
      * (a.W (ix4 l (⟨c.val / 4, by omega⟩ : Fin 3) (⟨512 * (c.val % 4) + k.val, by omega⟩ : Fin 2048) n) : EReal) := by
  refine Finset.sum_congr rfl fun k _ => ?_
  rw [lch_at, wch_at]; rfl

theorem tap_chunks (L : Vec Ideal S3x24x2048 .bf16) (s : Fin 3) (i : Fin 24) (n : Fin 2048) :
    tap a l L s i n = dotc L (WBUF a l) ⟨4 * s.val, by omega⟩ i n + dotc L (WBUF a l) ⟨4 * s.val + 1, by omega⟩ i n
      + (dotc L (WBUF a l) ⟨4 * s.val + 2, by omega⟩ i n + dotc L (WBUF a l) ⟨4 * s.val + 3, by omega⟩ i n) := by
  unfold tap
  rw [Layer.sum_four]
  have h : ∀ (q : ℕ) (hq : q < 4), dotc L (WBUF a l) ⟨4 * s.val + q, by omega⟩ i n
      = ∑ k : Fin 512, L (ix3 s i (⟨512 * q + k.val, by omega⟩ : Fin 2048)) * (a.W (ix4 l s (⟨512 * q + k.val, by omega⟩ : Fin 2048) n) : EReal) := by
    intro q hq
    rw [dotc_at]
    refine Finset.sum_congr rfl fun k _ => ?_
    have e1 : (⟨(4 * s.val + q) / 4, by omega⟩ : Fin 3) = s := Fin.ext (by show (4 * s.val + q) / 4 = s.val; omega)
    have e2 : (⟨512 * ((4 * s.val + q) % 4) + k.val, by omega⟩ : Fin 2048) = ⟨512 * q + k.val, by omega⟩ := Fin.ext (by show 512 * ((4 * s.val + q) % 4) + k.val = 512 * q + k.val; omega)
    dsimp only
    rw [e1, e2]
  have h0 := h 0 (by omega)
  have e0 : ∀ k : Fin 512, (⟨512 * 0 + k.val, by omega⟩ : Fin 2048) = ⟨k.val, by omega⟩ := fun k => Fin.ext (by show 512 * 0 + k.val = k.val; omega)
  simp only [e0] at h0
  exact congrArg₂ (· + ·) (congrArg₂ (· + ·) h0.symm (h 1 (by omega)).symm) (congrArg₂ (· + ·) (h 2 (by omega)).symm (h 3 (by omega)).symm)

theorem acc_at (L : Vec Ideal S3x24x2048 .bf16) (j : S24x2048.Idx) :
    accOf L (WBUF a l) j = tap a l L 0 (j 0) (j 1) + tap a l L 1 (j 0) (j 1) + tap a l L 2 (j 0) (j 1) := by
  rw [acc_chunks, regroup]
  exact (congrArg₂ (· + ·) (congrArg₂ (· + ·) (tap_chunks a l L 0 (j 0) (j 1)) (tap_chunks a l L 1 (j 0) (j 1))) (tap_chunks a l L 2 (j 0) (j 1))).symm

/-! ## A layer -/

/-- A layer's value before its activation. -/
def pre (i : Fin 24) (n : Fin 2048) : EReal :=
  ((∑ x : Fin 2048, (if par a i = 1 then slot a l 1 i x else slot a l 0 i x) * (a.W (ix4 l 0 x n) : EReal))
    + (∑ x : Fin 2048, (if par a i = 1 then slot a l 0 i x else slot a l 1 i x) * (a.W (ix4 l 1 x n) : EReal))
    + (∑ x : Fin 2048, (code A i x * scl A i) * (a.W (ix4 l 2 x n) : EReal))) * a.WS (ix2 l n) + a.Bi (ix2 l n)

theorem accL_at (j : S24x2048.Idx) : accOf (LHS a l A) (WBUF a l) j
    = (∑ x : Fin 2048, (if par a (j 0) = 1 then slot a l 1 (j 0) x else slot a l 0 (j 0) x) * (a.W (ix4 l 0 x (j 1)) : EReal))
    + (∑ x : Fin 2048, (if par a (j 0) = 1 then slot a l 0 (j 0) x else slot a l 1 (j 0) x) * (a.W (ix4 l 1 x (j 1)) : EReal))
    + (∑ x : Fin 2048, (code A (j 0) x * scl A (j 0)) * (a.W (ix4 l 2 x (j 1)) : EReal)) := by
  rw [acc_at]
  refine congrArg₂ (· + ·) (congrArg₂ (· + ·) ?_ ?_) ?_ <;> refine Finset.sum_congr rfl fun x _ => congrArg (· * _) ?_
  · exact (if_pos rfl).trans (hist0_at a l (ix3 0 (j 0) x))
  · exact (if_neg (by show ¬ (1 : ℕ) = 0; omega)).trans ((if_pos rfl).trans (hist1_at a l (ix3 0 (j 0) x)))
  · exact (if_neg (by show ¬ (2 : ℕ) = 0; omega)).trans ((if_neg (by show ¬ (2 : ℕ) = 1; omega)).trans (winV_at A (ix3 0 (j 0) x)))

theorem stepAct_at (j : S24x2048.Idx) : stepAct a l A j = elu (pre a l A (j 0) (j 1)) := by
  unfold pre elu
  rw [← accL_at, ← Layer.elu_eq]
  have hw := wsRow_at a l (ix2 0 (j 1))
  have hb := biRow_at a l (ix2 0 (j 1))
  pointwise [stepAct, k0_pay23]
  rw [hw, hb]; rfl

/-- What each layer quantises, as one recursion. -/
theorem act_zero : act a 0 = fun j => a.X j := by
  funext j
  show k0_pay39 (xAll a) j = _
  pointwise [k0_pay39]
  exact xAll_at a j
theorem act_next (k : Fin 4) : act a k.succ = stepAct a k.castSucc (act a k.castSucc) := rfl

/-! ## The results -/

theorem YV_at (j : S24x2048.Idx) : YV a j = pre a 4 (act a 4) (j 0) (j 1) := by
  unfold pre
  rw [← accL_at]
  have hw := wsRow_at a 4 (ix2 0 (j 1))
  have hb := biRow_at a 4 (ix2 0 (j 1))
  pointwise [YV, k0_pay81]
  rw [hw, hb]; rfl
theorem CODES_at (j : S5x24x2048.Idx) : CODES a j = code (act a (j 0)) (j 1) (j 2) := codesSlab_at _ _
theorem SCALES_at (j : S5x1x24.Idx) : SCALES a j = scl (act a (j 0)) (j 2) := scaleSlab_at _ _

theorem new0 (C : FVec Ideal S24x2048 .fp8e4m3) (j : S1x1x24x2048.Idx) : k0_pay35 C (posRow a) (scRow a l 0) j
    = if par a (j 2) = 0 then C (ix2 (j 2) (j 3)) else a.SC (ix4 l 0 (j 2) (j 3)) := by
  pointwise [k0_pay35, k0_pay33, k0_pay34]
  erw [Layer.eye_int (j 2) fun x => posRow a (ix2 0 x)]
  rw [Layer.bit_zero, Layer.sel_ite, posRow_at, scRow_at]
  rfl
theorem new1 (C : FVec Ideal S24x2048 .fp8e4m3) (j : S1x1x24x2048.Idx) : k0_pay37 (k0_pay33 (F := Ideal) (posRow a)) (k0_pay34 C) (scRow a l 1) j
    = if par a (j 2) = 1 then C (ix2 (j 2) (j 3)) else a.SC (ix4 l 1 (j 2) (j 3)) := by
  pointwise [k0_pay37, k0_pay33, k0_pay34]
  erw [Layer.eye_int (j 2) fun x => posRow a (ix2 0 x)]
  rw [Layer.bit_one, Layer.sel_ite, posRow_at, scRow_at]
  rfl
theorem nscOf_at (s : Fin 2) (i : Fin 24) (x : Fin 2048) : nscOf a l s (ix4 0 0 i x) = if par a i = s.val then code (act a l) i x else a.SC (ix4 l s i x) := by
  unfold nscOf
  match s with
  | 0 =>
    rw [if_pos (by rfl : (0 : Fin 2).val = 0)]
    refine (new0 a l _ _).trans ?_
    rw [codesV_at]; rfl
  | 1 =>
    rw [if_neg (by show ¬ (1 : ℕ) = 0; omega)]
    refine (new1 a l _ _).trans ?_
    rw [codesV_at]; rfl
theorem NSC_at (j : S5x2x24x2048.Idx) : NSC a j = if par a (j 2) = (j 1).val then code (act a (j 0)) (j 2) (j 3) else a.SC (ix4 (j 0) (j 1) (j 2) (j 3)) :=
  nscOf_at a (j 0) (j 1) (j 2) (j 3)

theorem nssOf_at (s : Fin 2) (i : Fin 24) : nssOf a l s (ix3 0 0 i) = if par a i = s.val then scl (act a l) i else a.SS (ix3 l s i) := by
  unfold nssOf
  match s with
  | 0 =>
    rw [if_pos (by rfl : (0 : Fin 2).val = 0)]
    pointwise [k0_pay36]
    rw [Layer.bit_zero, Layer.sel_ite, posRow_at, scaleRow_at, ssRow_at]; rfl
  | 1 =>
    rw [if_neg (by show ¬ (1 : ℕ) = 0; omega)]
    pointwise [k0_pay57, k0_pay38]
    rw [Layer.bit_one, Layer.sel_ite, posRow_at, scaleRow_at, ssRow_at]; rfl
theorem NSS_at (j : S5x2x24.Idx) : NSS a j = if par a (j 2) = (j 1).val then scl (act a (j 0)) (j 2) else a.SS (ix3 (j 0) (j 1) (j 2)) :=
  nssOf_at a (j 0) (j 1) (j 2)

end Cert.KernelIdeal.Hand

end
-- ==== Proof.Ref.Spec.lean ====
/- What the reference computes, layer by layer, as functions of its seven arguments: the body's own chain of operations
   (the payloads of its stores and of its loop) over the values its loads read. -/
module

public import proofs.«01_k».proof.Proof.Gen.ReferenceIdeal.Value
public import Idealize.ShloMosaic.Lib.Pointwise
public import Idealize.ShloMosaic.Lib.WholeRead

@[expose] public section

noncomputable section

namespace Cert.ReferenceIdeal.Hand

open Cert.ReferenceIdeal Cert.ReferenceIdeal.Gen
open Idealize.ShloMosaic
open Idealize.ShloMosaic.TcCoe

variable {F : FTy → Type} [FloatOps F]

/-- The reference's arguments, as its body reads them. -/
structure In (F : FTy → Type) where
  X : Vec F S24x1x2048 .bf16
  SC : Vec F S5x24x2x2048 .fp8e4m3
  SS : Vec F S5x24x2 .f32
  W : Vec F S5x3x2048x2048 .fp8e4m3
  WS : Vec F S5x2048 .f32
  Bi : Vec F S5x2048 .f32
  POS : Vec F S24x1 .i32

variable (r : In F)

/-- One slot of the state's codes and scales, one tap of the weights, one row of their scales and of the biases. -/
def cRow (l : Fin 5) (s : Fin 2) : Vec F S1x24x1x2048 .fp8e4m3 := fun x => r.SC (ix4 l (x 1) s (x 3))
def sRow (l : Fin 5) (s : Fin 2) : Vec F S1x24x1 .f32 := fun x => r.SS (ix3 l (x 1) s)
def wTap (l : Fin 5) (s : Fin 3) : Vec F S1x1x2048x2048 .fp8e4m3 := fun x => r.W (ix4 l s (x 2) (x 3))
def wsRow (l : Fin 5) : Vec F S1x2048 .f32 := fun x => r.WS (ix2 l (x 1))
def biRow (l : Fin 5) : Vec F S1x2048 .f32 := fun x => r.Bi (ix2 l (x 1))

/-- The two rows of history a layer reads: codes and scales, the older first. -/
def s0 (l : Fin 5) : FVec F S24x1 .f32 := k0_pay14 (F := F) (k0_pay12 (k0_pay1 (F := F) r.POS)) 2#32 (sRow r l 1) (sRow r l 0)
def c0 (l : Fin 5) : FVec F S24x2048 .fp8e4m3 := k0_pay15 (F := F) (k0_pay12 (k0_pay1 (F := F) r.POS)) 2#32 (cRow r l 1) (cRow r l 0)
def s1 (l : Fin 5) : FVec F S24x1 .f32 :=
  k0_pay18 (F := F) (k0_pay16 (k0_pay1 (F := F) r.POS)) 2#32 (Scalar.cmpi .eq 2#32 0#32) 1#32 (sRow r l 1) (sRow r l 0)
def c1 (l : Fin 5) : FVec F S24x2048 .fp8e4m3 :=
  k0_pay19 (F := F) (k0_pay16 (k0_pay1 (F := F) r.POS)) 2#32 (Scalar.cmpi .eq 2#32 0#32) 1#32 (cRow r l 1) (cRow r l 0)

/-- A layer's value before its activation. -/
def pre (l : Fin 5) (A : FVec F S24x2048 .f32) : FVec F S24x2048 .f32 :=
  k0_pay22 (k0_pay8 A) (k0_pay9 A) (s1 r l) (c1 r l) (k0_pay20 (F := F)) (k0_pay21 (s0 r l) (c0 r l)) (wTap r l 0) (wTap r l 1) (wTap r l 2) (wsRow r l) (biRow r l)

/-- What the loop carries. -/
def carry : ℕ → FVec F S24x2048 .f32 × FVec F S24x2048 .f32
  | 0 => (k0_pay2 r.X, k0_pay3 (F := F))
  | k + 1 => if h : k < 5 then (k0_pay5 (pre r ⟨k, h⟩ (carry k).1), pre r ⟨k, h⟩ (carry k).1) else carry k

/-- The slabs a layer writes: codes, scales, and the next state's codes and scales. -/
def codesP (A : FVec F S24x2048 .f32) : FVec F S1x24x1x2048 .fp8e4m3 := k0_pay10 A
def scalesP (A : FVec F S24x2048 .f32) : FVec F S1x24x1 .f32 := k0_pay11 A
def nscP (l : Fin 5) (A : FVec F S24x2048 .f32) : FVec F S1x24x2x2048 .fp8e4m3 :=
  k0_pay25 (k0_pay8 A) (c1 r l) (Scalar.select (Scalar.cmpi .eq 2#32 0#32) 1#32 2#32) (k0_pay23 (k0_pay1 (F := F) r.POS)) k0_pay24
def nssP (l : Fin 5) (A : FVec F S24x2048 .f32) : FVec F S1x24x2 .f32 :=
  k0_pay4 (k0_pay9 A) (s1 r l) (k0_pay26 (k0_pay1 (F := F) r.POS)) (k0_pay27 (k0_pay1 (F := F) r.POS)) k0_pay28

/-- The five results. -/
def Y : Vec F S24x1x2048 .bf16 := k0_pay6 (carry r 5).2
def CODES : Vec F S5x24x1x2048 .fp8e4m3 := fun i => codesP (carry r (i 0).val).1 (ix4 0 (i 1) 0 (i 3))
def SCALES : Vec F S5x24x1 .f32 := fun i => scalesP (carry r (i 0).val).1 (ix3 0 (i 1) 0)
def NSC : Vec F S5x24x2x2048 .fp8e4m3 := fun i => nscP r (i 0) (carry r (i 0).val).1 (ix4 0 (i 1) (i 2) (i 3))
def NSS : Vec F S5x24x2 .f32 := fun i => nssP r (i 0) (carry r (i 0).val).1 (ix3 0 (i 1) (i 2))

end Cert.ReferenceIdeal.Hand
-- ==== Proof.Ref.Trip.lean ====
/- One trip of the reference's loop: what it carries on and what it writes, as the layer functions of the module before. -/
module

public import proofs.«01_k».proof.Proof.Ref.Spec

@[expose] public section

noncomputable section

namespace Cert.ReferenceIdeal.Hand

open Cert.ReferenceIdeal Cert.ReferenceIdeal.Gen
open Idealize.ShloMosaic
open Idealize.ShloMosaic.TcCoe
open Idealize.SL.Sem

variable {F : FTy → Type} [FloatOps F]

/-- A load of part of a whole buffer that reads `X`, its offsets known. -/
theorem ld_eq {sp : Space} {s : Shape} {e : EltTy} {M : Memref sig .tc sp s e} (h : M.IsWhole) (X : s.Idx → Elt F e) {off size : Fin s.rank → ℕ} (inb : ∀ a, off a + size a ≤ s.size a)
    (g : (⟨s.rank, size⟩ : Shape).Idx → Elt F e) (φ : (⟨s.rank, size⟩ : Shape).Idx → s.Idx) (hg : ∀ y, g y = X (φ y))
    (hφ : ∀ y a, (φ y a).val = off a + (y a).val) :
    View.readAt (Elt F) M.view (Rect.unit (s := s) off size inb).toLoadRect (h.unread X) = g := by
  funext y
  refine (h.readAt_unread X _ y).trans ((congrArg X ?_).trans (hg y).symm)
  funext a
  refine Fin.ext ?_
  show off a + 1 * (y a).val = _
  rw [hφ y a]; omega

/-! ## The loads of one trip -/

section Loads
variable (r : In F) (k : Fin k0_t1_loop.trips) (l : Fin 5) (hl : l.val = k.val)

include hl

theorem cRow_at {M : Memref sig .tc .vmem S5x24x2x2048 .fp8e4m3} (h : M.IsWhole) (s : Fin 2) {off : Fin 4 → ℕ} (ho : off = ![k.val, 0, s.val, 0]) (inb) :
    View.readAt (Elt F) M.view (Rect.unit (s := S5x24x2x2048) off S1x24x1x2048.size inb).toLoadRect (h.unread r.SC) = cRow r l s := by
  subst ho
  refine ld_eq h r.SC inb _ (fun y => ix4 l (y 1) s (y 3)) (fun y => rfl) fun y a => ?_
  have h0 : (y 0).val = 0 := Nat.lt_one_iff.mp (y 0).isLt
  have h2 : (y 2).val = 0 := Nat.lt_one_iff.mp (y 2).isLt
  match a with
  | ⟨0, _⟩ => show l.val = k.val + (y 0).val; omega
  | ⟨1, _⟩ => show (y 1).val = 0 + (y 1).val; omega
  | ⟨2, _⟩ => show s.val = s.val + (y 2).val; omega
  | ⟨3, _⟩ => show (y 3).val = 0 + (y 3).val; omega

theorem sRow_at {M : Memref sig .tc .vmem S5x24x2 .f32} (h : M.IsWhole) (s : Fin 2) {off : Fin 3 → ℕ} (ho : off = ![k.val, 0, s.val]) (inb) :
    View.readAt (Elt F) M.view (Rect.unit (s := S5x24x2) off S1x24x1.size inb).toLoadRect (h.unread r.SS) = sRow r l s := by
  subst ho
  refine ld_eq h r.SS inb _ (fun y => ix3 l (y 1) s) (fun y => rfl) fun y a => ?_
  have h0 : (y 0).val = 0 := Nat.lt_one_iff.mp (y 0).isLt
  have h2 : (y 2).val = 0 := Nat.lt_one_iff.mp (y 2).isLt
  match a with
  | ⟨0, _⟩ => show l.val = k.val + (y 0).val; omega
  | ⟨1, _⟩ => show (y 1).val = 0 + (y 1).val; omega
  | ⟨2, _⟩ => show s.val = s.val + (y 2).val; omega

theorem wTap_at {M : Memref sig .tc .vmem S5x3x2048x2048 .fp8e4m3} (h : M.IsWhole) (s : Fin 3) {off : Fin 4 → ℕ} (ho : off = ![k.val, s.val, 0, 0]) (inb) :
    View.readAt (Elt F) M.view (Rect.unit (s := S5x3x2048x2048) off S1x1x2048x2048.size inb).toLoadRect (h.unread r.W) = wTap r l s := by
  subst ho
  refine ld_eq h r.W inb _ (fun y => ix4 l s (y 2) (y 3)) (fun y => rfl) fun y a => ?_
  have h0 : (y 0).val = 0 := Nat.lt_one_iff.mp (y 0).isLt
  have h1 : (y 1).val = 0 := Nat.lt_one_iff.mp (y 1).isLt
  match a with
  | ⟨0, _⟩ => show l.val = k.val + (y 0).val; omega
  | ⟨1, _⟩ => show s.val = s.val + (y 1).val; omega
  | ⟨2, _⟩ => show (y 2).val = 0 + (y 2).val; omega
  | ⟨3, _⟩ => show (y 3).val = 0 + (y 3).val; omega

theorem row_at (X : Vec F S5x2048 .f32) {M : Memref sig .tc .vmem S5x2048 .f32} (h : M.IsWhole) {off : Fin 2 → ℕ} (ho : off = ![k.val, 0]) (inb) :
    View.readAt (Elt F) M.view (Rect.unit (s := S5x2048) off S1x2048.size inb).toLoadRect (h.unread X) = fun x => X (ix2 l (x 1)) := by
  subst ho
  refine ld_eq h X inb _ (fun y => ix2 l (y 1)) (fun y => rfl) fun y a => ?_
  have h0 : (y 0).val = 0 := Nat.lt_one_iff.mp (y 0).isLt
  match a with
  | ⟨0, _⟩ => show l.val = k.val + (y 0).val; omega
  | ⟨1, _⟩ => show (y 1).val = 0 + (y 1).val; omega

end Loads

/-! ## What a trip yields and writes -/

section Body

variable (𝒱 : Variants) (c : Dev nD) (bd : Option 𝒱.V)
  (arg0 : Memref sig .tc .vmem S24x1x2048 .bf16) (harg0 : arg0.IsWhole) (arg1 : Memref sig .tc .vmem S5x24x2x2048 .fp8e4m3) (harg1 : arg1.IsWhole) (arg2 : Memref sig .tc .vmem S5x24x2 .f32) (harg2 : arg2.IsWhole) (arg3 : Memref sig .tc .vmem S5x3x2048x2048 .fp8e4m3) (harg3 : arg3.IsWhole) (arg4 : Memref sig .tc .vmem S5x2048 .f32) (harg4 : arg4.IsWhole) (arg5 : Memref sig .tc .vmem S5x2048 .f32) (harg5 : arg5.IsWhole) (arg6 : Memref sig .tc .vmem S24x1 .i32) (harg6 : arg6.IsWhole) (arg7 : Memref sig .tc .vmem S24x1x2048 .bf16) (harg7 : arg7.IsWhole) (arg8 : Memref sig .tc .vmem S5x24x1x2048 .fp8e4m3) (harg8 : arg8.IsWhole) (arg9 : Memref sig .tc .vmem S5x24x1 .f32) (harg9 : arg9.IsWhole) (arg10 : Memref sig .tc .vmem S5x24x2x2048 .fp8e4m3) (harg10 : arg10.IsWhole) (arg11 : Memref sig .tc .vmem S5x24x2 .f32) (harg11 : arg11.IsWhole)
variable (r : In F) (k : Fin k0_t1_loop.trips) (acc : FVec F S24x2048 .f32 × FVec F S24x2048 .f32) (l : Fin 5) (hl : l.val = k.val)

include hl

/-- What a trip yields: the next layer's row, and this layer's value before its activation. -/
theorem tripR_eq : tripR_k0_t1 (F := F) 𝒱 c bd arg0 harg0 arg1 harg1 arg2 harg2 arg3 harg3 arg4 harg4 arg5 harg5 arg6 harg6 arg7 harg7 arg8 harg8 arg9 harg9 arg10 harg10 arg11 harg11 r.POS (harg1.unread r.SC) (harg2.unread r.SS) (harg3.unread r.W) (harg4.unread r.WS) (harg5.unread r.Bi) k acc = (k0_pay5 (pre r l acc.1), pre r l acc.1) := by
  unfold pre s0 s1 c0 c1
  have ew : wsRow r l = _ := (row_at k l hl r.WS harg4 (k0_off10_eq k) (k0_off10_inb k)).symm
  have eb : biRow r l = _ := (row_at k l hl r.Bi harg5 (k0_off10_eq k) (k0_off10_inb k)).symm
  rw [← cRow_at r k l hl harg1 1 (k0_off3_eq k) (k0_off3_inb k), ← cRow_at r k l hl harg1 0 (k0_off4_eq k) (k0_off4_inb k),
    ← sRow_at r k l hl harg2 1 (k0_off5_eq k) (k0_off5_inb k), ← sRow_at r k l hl harg2 0 (k0_off6_eq k) (k0_off6_inb k),
    ← wTap_at r k l hl harg3 0 (k0_off7_eq k) (k0_off7_inb k), ← wTap_at r k l hl harg3 1 (k0_off8_eq k) (k0_off8_inb k),
    ← wTap_at r k l hl harg3 2 (k0_off9_eq k) (k0_off9_inb k), ew, eb]
  unfold tripR_k0_t1 trip_k0_t1
  rfl

/-- What a trip writes: one slab of each of the four arrays. -/
theorem tripL_eq : tripL_k0_t1 (F := F) 𝒱 c bd arg0 harg0 arg1 harg1 arg2 harg2 arg3 harg3 arg4 harg4 arg5 harg5 arg6 harg6 arg7 harg7 arg8 harg8 arg9 harg9 arg10 harg10 arg11 harg11 r.POS (harg1.unread r.SC) (harg2.unread r.SS) (harg3.unread r.W) (harg4.unread r.WS) (harg5.unread r.Bi) k acc
      = ([⟨Rect.unit (s := S5x24x1x2048) (k0_off1 k) S1x24x1x2048.size (k0_off1_inb k), codesP acc.1⟩],
         [⟨Rect.unit (s := S5x24x1) (k0_off2 k) S1x24x1.size (k0_off2_inb k), scalesP acc.1⟩],
         [⟨Rect.unit (s := S5x24x2x2048) (k0_off11 k) S1x24x2x2048.size (k0_off11_inb k), nscP r l acc.1⟩],
         [⟨Rect.unit (s := S5x24x2) (k0_off12 k) S1x24x2.size (k0_off12_inb k), nssP r l acc.1⟩]) := by
  unfold nscP nssP s1 c1
  rw [← cRow_at r k l hl harg1 1 (k0_off3_eq k) (k0_off3_inb k), ← cRow_at r k l hl harg1 0 (k0_off4_eq k) (k0_off4_inb k),
    ← sRow_at r k l hl harg2 1 (k0_off5_eq k) (k0_off5_inb k), ← sRow_at r k l hl harg2 0 (k0_off6_eq k) (k0_off6_inb k)]
  unfold tripL_k0_t1 trip_k0_t1
  rfl

end Body

end Cert.ReferenceIdeal.Hand
-- ==== Proof.Ref.Loop.lean ====
/- The reference's whole loop: what it carries before each trip, and what its stores leave in the five result buffers. -/
module
public import proofs.«01_k».proof.Proof.Ref.Trip
public import Idealize.ShloMosaic.Lib.VecWindow

@[expose] public section

noncomputable section

namespace Cert.ReferenceIdeal.Hand

open Cert.ReferenceIdeal Cert.ReferenceIdeal.Gen
open Idealize.ShloMosaic
open Idealize.ShloMosaic.TcCoe
open Idealize.SL.Sem

variable {F : FTy → Type} [FloatOps F]

theorem trips_eq : k0_t1_loop.trips = 5 := by decide +kernel

/-- A write of a slab read at one of its indices. -/
theorem hit3 {sp : Space} {e : EltTy} {d : Fin 3 → ℕ} (v : View sig .tc sp ⟨3, d⟩ e) (f : v.ty.Contents (Elt F)) {off : Fin 3 → ℕ} (d' : Fin 3 → ℕ) {o0 o1 o2 : ℕ}
    (inb : ∀ a, off a + d' a ≤ d a) (w : (⟨3, d'⟩ : Shape).Idx → Elt F e) (L : List (View.Piece (Elt F) ⟨3, d⟩ e)) (y : (⟨3, d⟩ : Shape).Idx) (x : (⟨3, d'⟩ : Shape).Idx)
    (hoff : off = ![o0, o1, o2]) (h0 : (y 0).val = o0 + (x 0).val) (h1 : (y 1).val = o1 + (x 1).val) (h2 : (y 2).val = o2 + (x 2).val) :
    v.read (Elt F) (v.writes (Elt F) f (⟨Rect.unit (s := ⟨3, d⟩) off d' inb, w⟩ :: L)) y = w x :=
  View.read_writes_cons_unit_of_mem v f inb w L y x hoff fun a => match a with
    | ⟨0, _⟩ => h0 | ⟨1, _⟩ => h1 | ⟨2, _⟩ => h2
theorem hit4 {sp : Space} {e : EltTy} {d : Fin 4 → ℕ} (v : View sig .tc sp ⟨4, d⟩ e) (f : v.ty.Contents (Elt F)) {off : Fin 4 → ℕ} (d' : Fin 4 → ℕ) {o0 o1 o2 o3 : ℕ}
    (inb : ∀ a, off a + d' a ≤ d a) (w : (⟨4, d'⟩ : Shape).Idx → Elt F e) (L : List (View.Piece (Elt F) ⟨4, d⟩ e)) (y : (⟨4, d⟩ : Shape).Idx) (x : (⟨4, d'⟩ : Shape).Idx)
    (hoff : off = ![o0, o1, o2, o3]) (h0 : (y 0).val = o0 + (x 0).val) (h1 : (y 1).val = o1 + (x 1).val) (h2 : (y 2).val = o2 + (x 2).val) (h3 : (y 3).val = o3 + (x 3).val) :
    v.read (Elt F) (v.writes (Elt F) f (⟨Rect.unit (s := ⟨4, d⟩) off d' inb, w⟩ :: L)) y = w x :=
  View.read_writes_cons_unit_of_mem v f inb w L y x hoff fun a => match a with
    | ⟨0, _⟩ => h0 | ⟨1, _⟩ => h1 | ⟨2, _⟩ => h2 | ⟨3, _⟩ => h3

theorem carry_succ (r : In F) (l : Fin 5) : carry r (l.val + 1) = (k0_pay5 (pre r l (carry r l.val).1), pre r l (carry r l.val).1) := by
  rw [carry]; exact dif_pos l.isLt

section Body

variable (c : Dev nD)
  (arg0 : Memref sig .tc .vmem S24x1x2048 .bf16) (harg0 : arg0.IsWhole) (arg1 : Memref sig .tc .vmem S5x24x2x2048 .fp8e4m3) (harg1 : arg1.IsWhole) (arg2 : Memref sig .tc .vmem S5x24x2 .f32) (harg2 : arg2.IsWhole) (arg3 : Memref sig .tc .vmem S5x3x2048x2048 .fp8e4m3) (harg3 : arg3.IsWhole) (arg4 : Memref sig .tc .vmem S5x2048 .f32) (harg4 : arg4.IsWhole) (arg5 : Memref sig .tc .vmem S5x2048 .f32) (harg5 : arg5.IsWhole) (arg6 : Memref sig .tc .vmem S24x1 .i32) (harg6 : arg6.IsWhole) (arg7 : Memref sig .tc .vmem S24x1x2048 .bf16) (harg7 : arg7.IsWhole) (arg8 : Memref sig .tc .vmem S5x24x1x2048 .fp8e4m3) (harg8 : arg8.IsWhole) (arg9 : Memref sig .tc .vmem S5x24x1 .f32) (harg9 : arg9.IsWhole) (arg10 : Memref sig .tc .vmem S5x24x2x2048 .fp8e4m3) (harg10 : arg10.IsWhole) (arg11 : Memref sig .tc .vmem S5x24x2 .f32) (harg11 : arg11.IsWhole)
variable (r : In F)

/-- What the loop carries before trip `n`. -/
theorem st_fst (n : ℕ) (hn : n ≤ 5) : (st_k0_t1 (F := F) Variants.none c none arg0 harg0 arg1 harg1 arg2 harg2 arg3 harg3 arg4 harg4 arg5 harg5 arg6 harg6 arg7 harg7 arg8 harg8 arg9 harg9 arg10 harg10 arg11 harg11 r.POS (harg1.unread r.SC) (harg2.unread r.SS) (harg3.unread r.W) (harg4.unread r.WS) (harg5.unread r.Bi) (k0_pay2 r.X, k0_pay3 (F := F)) n).1 = carry r n := by
  induction n with
  | zero => rfl
  | succ n ih =>
    have h := st_k0_t1_succ (F := F) Variants.none c none arg0 harg0 arg1 harg1 arg2 harg2 arg3 harg3 arg4 harg4 arg5 harg5 arg6 harg6 arg7 harg7 arg8 harg8 arg9 harg9 arg10 harg10 arg11 harg11 r.POS (harg1.unread r.SC) (harg2.unread r.SS) (harg3.unread r.W) (harg4.unread r.WS) (harg5.unread r.Bi) (k0_pay2 r.X, k0_pay3 (F := F)) ⟨n, by rw [trips_eq]; omega⟩
    rw [show n + 1 = (⟨n, by rw [trips_eq]; omega⟩ : Fin k0_t1_loop.trips).val + 1 from rfl, h]
    dsimp only
    rw [ih (by omega), tripR_eq _ _ _ arg0 harg0 arg1 harg1 arg2 harg2 arg3 harg3 arg4 harg4 arg5 harg5 arg6 harg6 arg7 harg7 arg8 harg8 arg9 harg9 arg10 harg10 arg11 harg11 r (⟨n, by rw [trips_eq]; omega⟩ : Fin k0_t1_loop.trips) _ ⟨n, by omega⟩ rfl]
    exact (carry_succ r ⟨n, by omega⟩).symm

/-- The pieces written before trip `n + 1`: trip `n`'s in front of those before it. -/
theorem st_snd (n : ℕ) (hn : n < 5) (k : Fin k0_t1_loop.trips) (hk : k.val = n) : (st_k0_t1 (F := F) Variants.none c none arg0 harg0 arg1 harg1 arg2 harg2 arg3 harg3 arg4 harg4 arg5 harg5 arg6 harg6 arg7 harg7 arg8 harg8 arg9 harg9 arg10 harg10 arg11 harg11 r.POS (harg1.unread r.SC) (harg2.unread r.SS) (harg3.unread r.W) (harg4.unread r.WS) (harg5.unread r.Bi) (k0_pay2 r.X, k0_pay3 (F := F)) (n + 1)).2
      = (⟨Rect.unit (s := S5x24x1x2048) (k0_off1 k) S1x24x1x2048.size (k0_off1_inb k), codesP (carry r n).1⟩ :: (st_k0_t1 (F := F) Variants.none c none arg0 harg0 arg1 harg1 arg2 harg2 arg3 harg3 arg4 harg4 arg5 harg5 arg6 harg6 arg7 harg7 arg8 harg8 arg9 harg9 arg10 harg10 arg11 harg11 r.POS (harg1.unread r.SC) (harg2.unread r.SS) (harg3.unread r.W) (harg4.unread r.WS) (harg5.unread r.Bi) (k0_pay2 r.X, k0_pay3 (F := F)) n).2.1,
         ⟨Rect.unit (s := S5x24x1) (k0_off2 k) S1x24x1.size (k0_off2_inb k), scalesP (carry r n).1⟩ :: (st_k0_t1 (F := F) Variants.none c none arg0 harg0 arg1 harg1 arg2 harg2 arg3 harg3 arg4 harg4 arg5 harg5 arg6 harg6 arg7 harg7 arg8 harg8 arg9 harg9 arg10 harg10 arg11 harg11 r.POS (harg1.unread r.SC) (harg2.unread r.SS) (harg3.unread r.W) (harg4.unread r.WS) (harg5.unread r.Bi) (k0_pay2 r.X, k0_pay3 (F := F)) n).2.2.1,
         ⟨Rect.unit (s := S5x24x2x2048) (k0_off11 k) S1x24x2x2048.size (k0_off11_inb k), nscP r ⟨n, hn⟩ (carry r n).1⟩ :: (st_k0_t1 (F := F) Variants.none c none arg0 harg0 arg1 harg1 arg2 harg2 arg3 harg3 arg4 harg4 arg5 harg5 arg6 harg6 arg7 harg7 arg8 harg8 arg9 harg9 arg10 harg10 arg11 harg11 r.POS (harg1.unread r.SC) (harg2.unread r.SS) (harg3.unread r.W) (harg4.unread r.WS) (harg5.unread r.Bi) (k0_pay2 r.X, k0_pay3 (F := F)) n).2.2.2.1,
         ⟨Rect.unit (s := S5x24x2) (k0_off12 k) S1x24x2.size (k0_off12_inb k), nssP r ⟨n, hn⟩ (carry r n).1⟩ :: (st_k0_t1 (F := F) Variants.none c none arg0 harg0 arg1 harg1 arg2 harg2 arg3 harg3 arg4 harg4 arg5 harg5 arg6 harg6 arg7 harg7 arg8 harg8 arg9 harg9 arg10 harg10 arg11 harg11 r.POS (harg1.unread r.SC) (harg2.unread r.SS) (harg3.unread r.W) (harg4.unread r.WS) (harg5.unread r.Bi) (k0_pay2 r.X, k0_pay3 (F := F)) n).2.2.2.2) := by
  subst hk
  have h := st_k0_t1_succ (F := F) Variants.none c none arg0 harg0 arg1 harg1 arg2 harg2 arg3 harg3 arg4 harg4 arg5 harg5 arg6 harg6 arg7 harg7 arg8 harg8 arg9 harg9 arg10 harg10 arg11 harg11 r.POS (harg1.unread r.SC) (harg2.unread r.SS) (harg3.unread r.W) (harg4.unread r.WS) (harg5.unread r.Bi) (k0_pay2 r.X, k0_pay3 (F := F)) k
  rw [h, st_fst c arg0 harg0 arg1 harg1 arg2 harg2 arg3 harg3 arg4 harg4 arg5 harg5 arg6 harg6 arg7 harg7 arg8 harg8 arg9 harg9 arg10 harg10 arg11 harg11 r _ hn.le, tripL_eq _ _ _ arg0 harg0 arg1 harg1 arg2 harg2 arg3 harg3 arg4 harg4 arg5 harg5 arg6 harg6 arg7 harg7 arg8 harg8 arg9 harg9 arg10 harg10 arg11 harg11 r k _ ⟨k.val, hn⟩ rfl]
  rfl

/-- What the pieces of the first `n` trips leave at an index of one of their slabs, in each of the four arrays. -/
theorem read8 (v : View sig .tc .vmem S5x24x1x2048 .fp8e4m3) (f : v.ty.Contents (Elt F)) (n : ℕ) (hn : n ≤ 5) (i : S5x24x1x2048.Idx) (hi : (i 0).val < n) :
    v.read (Elt F) (v.writes (Elt F) f (st_k0_t1 (F := F) Variants.none c none arg0 harg0 arg1 harg1 arg2 harg2 arg3 harg3 arg4 harg4 arg5 harg5 arg6 harg6 arg7 harg7 arg8 harg8 arg9 harg9 arg10 harg10 arg11 harg11 r.POS (harg1.unread r.SC) (harg2.unread r.SS) (harg3.unread r.W) (harg4.unread r.WS) (harg5.unread r.Bi) (k0_pay2 r.X, k0_pay3 (F := F)) n).2.1) i = CODES r i := by
  induction n with
  | zero => omega
  | succ n ih =>
    have hk : n < k0_t1_loop.trips := by rw [trips_eq]; omega
    rw [st_snd c arg0 harg0 arg1 harg1 arg2 harg2 arg3 harg3 arg4 harg4 arg5 harg5 arg6 harg6 arg7 harg7 arg8 harg8 arg9 harg9 arg10 harg10 arg11 harg11 r n (by omega) ⟨n, hk⟩ rfl]
    rcases Nat.lt_or_eq_of_le (Nat.lt_succ_iff.mp hi) with hlt | heq
    · exact (View.read_writes_cons_unit_of_not_mem v f _ _ _ i (k0_off1_eq ⟨n, hk⟩) 0 (.inl hlt)).trans (ih (by omega) hlt)
    have h2 : (i 2).val = 0 := Nat.lt_one_iff.mp (i 2).isLt
    refine (hit4 v f S1x24x1x2048.size _ _ _ i (ix4 0 (i 1) 0 (i 3)) (k0_off1_eq ⟨n, hk⟩) heq (Nat.zero_add _).symm h2 (Nat.zero_add _).symm).trans ?_
    unfold CODES; rw [heq]

theorem read9 (v : View sig .tc .vmem S5x24x1 .f32) (f : v.ty.Contents (Elt F)) (n : ℕ) (hn : n ≤ 5) (i : S5x24x1.Idx) (hi : (i 0).val < n) :
    v.read (Elt F) (v.writes (Elt F) f (st_k0_t1 (F := F) Variants.none c none arg0 harg0 arg1 harg1 arg2 harg2 arg3 harg3 arg4 harg4 arg5 harg5 arg6 harg6 arg7 harg7 arg8 harg8 arg9 harg9 arg10 harg10 arg11 harg11 r.POS (harg1.unread r.SC) (harg2.unread r.SS) (harg3.unread r.W) (harg4.unread r.WS) (harg5.unread r.Bi) (k0_pay2 r.X, k0_pay3 (F := F)) n).2.2.1) i = SCALES r i := by
  induction n with
  | zero => omega
  | succ n ih =>
    have hk : n < k0_t1_loop.trips := by rw [trips_eq]; omega
    rw [st_snd c arg0 harg0 arg1 harg1 arg2 harg2 arg3 harg3 arg4 harg4 arg5 harg5 arg6 harg6 arg7 harg7 arg8 harg8 arg9 harg9 arg10 harg10 arg11 harg11 r n (by omega) ⟨n, hk⟩ rfl]
    rcases Nat.lt_or_eq_of_le (Nat.lt_succ_iff.mp hi) with hlt | heq
    · exact (View.read_writes_cons_unit_of_not_mem v f _ _ _ i (k0_off2_eq ⟨n, hk⟩) 0 (.inl hlt)).trans (ih (by omega) hlt)
    have h2 : (i 2).val = 0 := Nat.lt_one_iff.mp (i 2).isLt
    refine (hit3 v f S1x24x1.size _ _ _ i (ix3 0 (i 1) 0) (k0_off2_eq ⟨n, hk⟩) heq (Nat.zero_add _).symm h2).trans ?_
    unfold SCALES; rw [heq]

theorem read10 (v : View sig .tc .vmem S5x24x2x2048 .fp8e4m3) (f : v.ty.Contents (Elt F)) (n : ℕ) (hn : n ≤ 5) (i : S5x24x2x2048.Idx) (hi : (i 0).val < n) :
    v.read (Elt F) (v.writes (Elt F) f (st_k0_t1 (F := F) Variants.none c none arg0 harg0 arg1 harg1 arg2 harg2 arg3 harg3 arg4 harg4 arg5 harg5 arg6 harg6 arg7 harg7 arg8 harg8 arg9 harg9 arg10 harg10 arg11 harg11 r.POS (harg1.unread r.SC) (harg2.unread r.SS) (harg3.unread r.W) (harg4.unread r.WS) (harg5.unread r.Bi) (k0_pay2 r.X, k0_pay3 (F := F)) n).2.2.2.1) i = NSC r i := by
  induction n with
  | zero => omega
  | succ n ih =>
    have hk : n < k0_t1_loop.trips := by rw [trips_eq]; omega
    rw [st_snd c arg0 harg0 arg1 harg1 arg2 harg2 arg3 harg3 arg4 harg4 arg5 harg5 arg6 harg6 arg7 harg7 arg8 harg8 arg9 harg9 arg10 harg10 arg11 harg11 r n (by omega) ⟨n, hk⟩ rfl]
    rcases Nat.lt_or_eq_of_le (Nat.lt_succ_iff.mp hi) with hlt | heq
    · exact (View.read_writes_cons_unit_of_not_mem v f _ _ _ i (k0_off11_eq ⟨n, hk⟩) 0 (.inl hlt)).trans (ih (by omega) hlt)
    have h0 : i 0 = (⟨n, hn⟩ : Fin 5) := Fin.ext heq
    refine (hit4 v f S1x24x2x2048.size _ _ _ i (ix4 0 (i 1) (i 2) (i 3)) (k0_off11_eq ⟨n, hk⟩) heq (Nat.zero_add _).symm (Nat.zero_add _).symm (Nat.zero_add _).symm).trans ?_
    unfold NSC; rw [h0]

theorem read11 (v : View sig .tc .vmem S5x24x2 .f32) (f : v.ty.Contents (Elt F)) (n : ℕ) (hn : n ≤ 5) (i : S5x24x2.Idx) (hi : (i 0).val < n) :
    v.read (Elt F) (v.writes (Elt F) f (st_k0_t1 (F := F) Variants.none c none arg0 harg0 arg1 harg1 arg2 harg2 arg3 harg3 arg4 harg4 arg5 harg5 arg6 harg6 arg7 harg7 arg8 harg8 arg9 harg9 arg10 harg10 arg11 harg11 r.POS (harg1.unread r.SC) (harg2.unread r.SS) (harg3.unread r.W) (harg4.unread r.WS) (harg5.unread r.Bi) (k0_pay2 r.X, k0_pay3 (F := F)) n).2.2.2.2) i = NSS r i := by
  induction n with
  | zero => omega
  | succ n ih =>
    have hk : n < k0_t1_loop.trips := by rw [trips_eq]; omega
    rw [st_snd c arg0 harg0 arg1 harg1 arg2 harg2 arg3 harg3 arg4 harg4 arg5 harg5 arg6 harg6 arg7 harg7 arg8 harg8 arg9 harg9 arg10 harg10 arg11 harg11 r n (by omega) ⟨n, hk⟩ rfl]
    rcases Nat.lt_or_eq_of_le (Nat.lt_succ_iff.mp hi) with hlt | heq
    · exact (View.read_writes_cons_unit_of_not_mem v f _ _ _ i (k0_off12_eq ⟨n, hk⟩) 0 (.inl hlt)).trans (ih (by omega) hlt)
    have h0 : i 0 = (⟨n, hn⟩ : Fin 5) := Fin.ext heq
    refine (hit3 v f S1x24x2.size _ _ _ i (ix3 0 (i 1) (i 2)) (k0_off12_eq ⟨n, hk⟩) heq (Nat.zero_add _).symm (Nat.zero_add _).symm).trans ?_
    unfold NSS; rw [h0]

/-- The two whole loads before the loop. -/
theorem pos_at : View.readAt (Elt F) arg6.view (Rect.unit (s := S24x1) ![0, 0] S24x1.size inb_S24x1_S24x1_0_0).toLoadRect (harg6.unread r.POS) = r.POS :=
  (View.readAt_full arg6.view _ _).trans (harg6.read_unread _)
theorem x_at : View.readAt (Elt F) arg0.view (Rect.unit (s := S24x1x2048) ![0, 0, 0] S24x1x2048.size inb_S24x1x2048_S24x1x2048_0_0_0).toLoadRect (harg0.unread r.X) = r.X :=
  (View.readAt_full arg0.view _ _).trans (harg0.read_unread _)

theorem run7 : (kernelRun0_A (F := F) c arg0 harg0 arg1 harg1 arg2 harg2 arg3 harg3 arg4 harg4 arg5 harg5 arg6 harg6 arg7 harg7 arg8 harg8 arg9 harg9 arg10 harg10 arg11 harg11 r.X r.SC r.SS r.W r.WS r.Bi r.POS).1
    = [⟨Rect.unit (s := S24x1x2048) ![0, 0, 0] S24x1x2048.size inb_S24x1x2048_S24x1x2048_0_0_0, k0_pay6 (st_k0_t1 (F := F) Variants.none c none arg0 harg0 arg1 harg1 arg2 harg2 arg3 harg3 arg4 harg4 arg5 harg5 arg6 harg6 arg7 harg7 arg8 harg8 arg9 harg9 arg10 harg10 arg11 harg11 r.POS (harg1.unread r.SC) (harg2.unread r.SS) (harg3.unread r.W) (harg4.unread r.WS) (harg5.unread r.Bi) (k0_pay2 r.X, k0_pay3 (F := F)) k0_t1_loop.trips).1.2⟩] := by
  conv_rhs => rw [← pos_at arg6 harg6 r, ← x_at arg0 harg0 r]
  unfold kernelRun0_A
  rfl

theorem run8 : ((kernelRun0_A (F := F) c arg0 harg0 arg1 harg1 arg2 harg2 arg3 harg3 arg4 harg4 arg5 harg5 arg6 harg6 arg7 harg7 arg8 harg8 arg9 harg9 arg10 harg10 arg11 harg11 r.X r.SC r.SS r.W r.WS r.Bi r.POS).2.1,
      (kernelRun0_A (F := F) c arg0 harg0 arg1 harg1 arg2 harg2 arg3 harg3 arg4 harg4 arg5 harg5 arg6 harg6 arg7 harg7 arg8 harg8 arg9 harg9 arg10 harg10 arg11 harg11 r.X r.SC r.SS r.W r.WS r.Bi r.POS).2.2.1,
      (kernelRun0_A (F := F) c arg0 harg0 arg1 harg1 arg2 harg2 arg3 harg3 arg4 harg4 arg5 harg5 arg6 harg6 arg7 harg7 arg8 harg8 arg9 harg9 arg10 harg10 arg11 harg11 r.X r.SC r.SS r.W r.WS r.Bi r.POS).2.2.2.1,
      (kernelRun0_A (F := F) c arg0 harg0 arg1 harg1 arg2 harg2 arg3 harg3 arg4 harg4 arg5 harg5 arg6 harg6 arg7 harg7 arg8 harg8 arg9 harg9 arg10 harg10 arg11 harg11 r.X r.SC r.SS r.W r.WS r.Bi r.POS).2.2.2.2.1) = (st_k0_t1 (F := F) Variants.none c none arg0 harg0 arg1 harg1 arg2 harg2 arg3 harg3 arg4 harg4 arg5 harg5 arg6 harg6 arg7 harg7 arg8 harg8 arg9 harg9 arg10 harg10 arg11 harg11 r.POS (harg1.unread r.SC) (harg2.unread r.SS) (harg3.unread r.W) (harg4.unread r.WS) (harg5.unread r.Bi) (k0_pay2 r.X, k0_pay3 (F := F)) k0_t1_loop.trips).2 := by
  conv_rhs => rw [← pos_at arg6 harg6 r, ← x_at arg0 harg0 r]
  unfold kernelRun0_A
  rfl

/-- What the body leaves in the five result buffers. -/
theorem out7 : out0_A_7 (F := F) c arg0 harg0 arg1 harg1 arg2 harg2 arg3 harg3 arg4 harg4 arg5 harg5 arg6 harg6 arg7 harg7 arg8 harg8 arg9 harg9 arg10 harg10 arg11 harg11 r.X r.SC r.SS r.W r.WS r.Bi r.POS = Y r := by
  unfold out0_A_7
  rw [run7, trips_eq, st_fst c arg0 harg0 arg1 harg1 arg2 harg2 arg3 harg3 arg4 harg4 arg5 harg5 arg6 harg6 arg7 harg7 arg8 harg8 arg9 harg9 arg10 harg10 arg11 harg11 r 5 le_rfl]
  exact View.read_writes_full _ _ _ _ _
theorem out8 : out0_A_8 (F := F) c arg0 harg0 arg1 harg1 arg2 harg2 arg3 harg3 arg4 harg4 arg5 harg5 arg6 harg6 arg7 harg7 arg8 harg8 arg9 harg9 arg10 harg10 arg11 harg11 r.X r.SC r.SS r.W r.WS r.Bi r.POS = CODES r := by
  unfold out0_A_8
  have h := congrArg (fun p => p.1) (run8 c arg0 harg0 arg1 harg1 arg2 harg2 arg3 harg3 arg4 harg4 arg5 harg5 arg6 harg6 arg7 harg7 arg8 harg8 arg9 harg9 arg10 harg10 arg11 harg11 r)
  dsimp only at h
  rw [h, trips_eq]
  funext i; exact read8 c arg0 harg0 arg1 harg1 arg2 harg2 arg3 harg3 arg4 harg4 arg5 harg5 arg6 harg6 arg7 harg7 arg8 harg8 arg9 harg9 arg10 harg10 arg11 harg11 r _ _ 5 le_rfl i (i 0).isLt
theorem out9 : out0_A_9 (F := F) c arg0 harg0 arg1 harg1 arg2 harg2 arg3 harg3 arg4 harg4 arg5 harg5 arg6 harg6 arg7 harg7 arg8 harg8 arg9 harg9 arg10 harg10 arg11 harg11 r.X r.SC r.SS r.W r.WS r.Bi r.POS = SCALES r := by
  unfold out0_A_9
  have h := congrArg (fun p => p.2.1) (run8 c arg0 harg0 arg1 harg1 arg2 harg2 arg3 harg3 arg4 harg4 arg5 harg5 arg6 harg6 arg7 harg7 arg8 harg8 arg9 harg9 arg10 harg10 arg11 harg11 r)
  dsimp only at h
  rw [h, trips_eq]
  funext i; exact read9 c arg0 harg0 arg1 harg1 arg2 harg2 arg3 harg3 arg4 harg4 arg5 harg5 arg6 harg6 arg7 harg7 arg8 harg8 arg9 harg9 arg10 harg10 arg11 harg11 r _ _ 5 le_rfl i (i 0).isLt
theorem out10 : out0_A_10 (F := F) c arg0 harg0 arg1 harg1 arg2 harg2 arg3 harg3 arg4 harg4 arg5 harg5 arg6 harg6 arg7 harg7 arg8 harg8 arg9 harg9 arg10 harg10 arg11 harg11 r.X r.SC r.SS r.W r.WS r.Bi r.POS = NSC r := by
  unfold out0_A_10
  have h := congrArg (fun p => p.2.2.1) (run8 c arg0 harg0 arg1 harg1 arg2 harg2 arg3 harg3 arg4 harg4 arg5 harg5 arg6 harg6 arg7 harg7 arg8 harg8 arg9 harg9 arg10 harg10 arg11 harg11 r)
  dsimp only at h
  rw [h, trips_eq]
  funext i; exact read10 c arg0 harg0 arg1 harg1 arg2 harg2 arg3 harg3 arg4 harg4 arg5 harg5 arg6 harg6 arg7 harg7 arg8 harg8 arg9 harg9 arg10 harg10 arg11 harg11 r _ _ 5 le_rfl i (i 0).isLt
theorem out11 : out0_A_11 (F := F) c arg0 harg0 arg1 harg1 arg2 harg2 arg3 harg3 arg4 harg4 arg5 harg5 arg6 harg6 arg7 harg7 arg8 harg8 arg9 harg9 arg10 harg10 arg11 harg11 r.X r.SC r.SS r.W r.WS r.Bi r.POS = NSS r := by
  unfold out0_A_11
  have h := congrArg (fun p => p.2.2.2) (run8 c arg0 harg0 arg1 harg1 arg2 harg2 arg3 harg3 arg4 harg4 arg5 harg5 arg6 harg6 arg7 harg7 arg8 harg8 arg9 harg9 arg10 harg10 arg11 harg11 r)
  dsimp only at h
  rw [h, trips_eq]
  funext i; exact read11 c arg0 harg0 arg1 harg1 arg2 harg2 arg3 harg3 arg4 harg4 arg5 harg5 arg6 harg6 arg7 harg7 arg8 harg8 arg9 harg9 arg10 harg10 arg11 harg11 r _ _ 5 le_rfl i (i 0).isLt

end Body

end Cert.ReferenceIdeal.Hand

end
-- ==== Proof.Ref.Out.lean ====
/- The reference's run with its five result arrays as functions of the argument arrays: the one grid point's blocks are whole arrays. -/
module
public import proofs.«01_k».proof.Proof.Ref.Loop

@[expose] public section

noncomputable section

namespace Cert.ReferenceIdeal.Hand

open Cert.ReferenceIdeal Cert.ReferenceIdeal.Gen Cert.ReferenceIdeal.Value
open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The array of positions as a column. -/
theorem V_v0 (c : Dev nD) : V m c main_v0 = shapeCast S24x1 (m ((c : Thread nD τ).loc main_arg6)) shapeCasts_S24_S24x1 := by
  unfold V
  simp only [hostOps0, List.flatten_cons, List.flatten_nil, List.append_nil]
  after_results
  rfl

/-- The reference's arguments as its body reads them, from the memory at launch. -/
def inOf (c : Dev nD) : In F :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), shapeCast S24x1 (m ((c : Thread nD τ).loc main_arg6)) shapeCasts_S24_S24x1⟩

/-- An index of a window's block is the same index of its array. -/
theorem at_zero {n : ℕ} {s : Fin n → ℕ} {o : Fin n → ℕ} {a : Fin n} (x : ℕ) (h : o a = 0) : o a * s a + 1 * x = x := by rw [h]; omega

theorem idx_zero0 : ∀ (t : Fin cfg0.N) (a : Fin S24x1x2048.rank), win0_0.index t a = 0 := (by decide +kernel : ∀ (t : Fin grid0.N) (a : Fin S24x1x2048.rank), _)
theorem emb0 (t : Fin cfg0.N) (j : S24x1x2048.Idx) : ((cfg0.win 0).blk t).view.emb j = j := funext fun a => Fin.ext (at_zero (s := S24x1x2048.size) (o := win0_0.index t) _ (idx_zero0 t a))
theorem idx_zero1 : ∀ (t : Fin cfg0.N) (a : Fin S5x24x2x2048.rank), win0_1.index t a = 0 := (by decide +kernel : ∀ (t : Fin grid0.N) (a : Fin S5x24x2x2048.rank), _)
theorem emb1 (t : Fin cfg0.N) (j : S5x24x2x2048.Idx) : ((cfg0.win 1).blk t).view.emb j = j := funext fun a => Fin.ext (at_zero (s := S5x24x2x2048.size) (o := win0_1.index t) _ (idx_zero1 t a))
theorem idx_zero2 : ∀ (t : Fin cfg0.N) (a : Fin S5x24x2.rank), win0_2.index t a = 0 := (by decide +kernel : ∀ (t : Fin grid0.N) (a : Fin S5x24x2.rank), _)
theorem emb2 (t : Fin cfg0.N) (j : S5x24x2.Idx) : ((cfg0.win 2).blk t).view.emb j = j := funext fun a => Fin.ext (at_zero (s := S5x24x2.size) (o := win0_2.index t) _ (idx_zero2 t a))
theorem idx_zero3 : ∀ (t : Fin cfg0.N) (a : Fin S5x3x2048x2048.rank), win0_3.index t a = 0 := (by decide +kernel : ∀ (t : Fin grid0.N) (a : Fin S5x3x2048x2048.rank), _)
theorem emb3 (t : Fin cfg0.N) (j : S5x3x2048x2048.Idx) : ((cfg0.win 3).blk t).view.emb j = j := funext fun a => Fin.ext (at_zero (s := S5x3x2048x2048.size) (o := win0_3.index t) _ (idx_zero3 t a))
theorem idx_zero4 : ∀ (t : Fin cfg0.N) (a : Fin S5x2048.rank), win0_4.index t a = 0 := (by decide +kernel : ∀ (t : Fin grid0.N) (a : Fin S5x2048.rank), _)
theorem emb4 (t : Fin cfg0.N) (j : S5x2048.Idx) : ((cfg0.win 4).blk t).view.emb j = j := funext fun a => Fin.ext (at_zero (s := S5x2048.size) (o := win0_4.index t) _ (idx_zero4 t a))
theorem idx_zero5 : ∀ (t : Fin cfg0.N) (a : Fin S5x2048.rank), win0_5.index t a = 0 := (by decide +kernel : ∀ (t : Fin grid0.N) (a : Fin S5x2048.rank), _)
theorem emb5 (t : Fin cfg0.N) (j : S5x2048.Idx) : ((cfg0.win 5).blk t).view.emb j = j := funext fun a => Fin.ext (at_zero (s := S5x2048.size) (o := win0_5.index t) _ (idx_zero5 t a))
theorem idx_zero6 : ∀ (t : Fin cfg0.N) (a : Fin S24x1.rank), win0_6.index t a = 0 := (by decide +kernel : ∀ (t : Fin grid0.N) (a : Fin S24x1.rank), _)
theorem emb6 (t : Fin cfg0.N) (j : S24x1.Idx) : ((cfg0.win 6).blk t).view.emb j = j := funext fun a => Fin.ext (at_zero (s := S24x1.size) (o := win0_6.index t) _ (idx_zero6 t a))
theorem idx_zero7 : ∀ (t : Fin cfg0.N) (a : Fin S24x1x2048.rank), win0_7.index t a = 0 := (by decide +kernel : ∀ (t : Fin grid0.N) (a : Fin S24x1x2048.rank), _)
theorem emb7 (t : Fin cfg0.N) (j : S24x1x2048.Idx) : ((cfg0.win 7).blk t).view.emb j = j := funext fun a => Fin.ext (at_zero (s := S24x1x2048.size) (o := win0_7.index t) _ (idx_zero7 t a))
theorem idx_zero8 : ∀ (t : Fin cfg0.N) (a : Fin S5x24x1x2048.rank), win0_8.index t a = 0 := (by decide +kernel : ∀ (t : Fin grid0.N) (a : Fin S5x24x1x2048.rank), _)
theorem emb8 (t : Fin cfg0.N) (j : S5x24x1x2048.Idx) : ((cfg0.win 8).blk t).view.emb j = j := funext fun a => Fin.ext (at_zero (s := S5x24x1x2048.size) (o := win0_8.index t) _ (idx_zero8 t a))
theorem idx_zero9 : ∀ (t : Fin cfg0.N) (a : Fin S5x24x1.rank), win0_9.index t a = 0 := (by decide +kernel : ∀ (t : Fin grid0.N) (a : Fin S5x24x1.rank), _)
theorem emb9 (t : Fin cfg0.N) (j : S5x24x1.Idx) : ((cfg0.win 9).blk t).view.emb j = j := funext fun a => Fin.ext (at_zero (s := S5x24x1.size) (o := win0_9.index t) _ (idx_zero9 t a))
theorem idx_zero10 : ∀ (t : Fin cfg0.N) (a : Fin S5x24x2x2048.rank), win0_10.index t a = 0 := (by decide +kernel : ∀ (t : Fin grid0.N) (a : Fin S5x24x2x2048.rank), _)
theorem emb10 (t : Fin cfg0.N) (j : S5x24x2x2048.Idx) : ((cfg0.win 10).blk t).view.emb j = j := funext fun a => Fin.ext (at_zero (s := S5x24x2x2048.size) (o := win0_10.index t) _ (idx_zero10 t a))
theorem idx_zero11 : ∀ (t : Fin cfg0.N) (a : Fin S5x24x2.rank), win0_11.index t a = 0 := (by decide +kernel : ∀ (t : Fin grid0.N) (a : Fin S5x24x2.rank), _)
theorem emb11 (t : Fin cfg0.N) (j : S5x24x2.Idx) : ((cfg0.win 11).blk t).view.emb j = j := funext fun a => Fin.ext (at_zero (s := S5x24x2.size) (o := win0_11.index t) _ (idx_zero11 t a))

/-- An input window's block is its array. -/
theorem iblk0_eq (c : Dev nD) (t : Fin cfg0.N) : iblk m c 0 t = V m c main_arg0 := by
  funext j; show V m c main_arg0 (((cfg0.win 0).blk t).view.emb j) = V m c main_arg0 j; rw [emb0]
theorem iblk1_eq (c : Dev nD) (t : Fin cfg0.N) : iblk m c 1 t = V m c main_arg1 := by
  funext j; show V m c main_arg1 (((cfg0.win 1).blk t).view.emb j) = V m c main_arg1 j; rw [emb1]
theorem iblk2_eq (c : Dev nD) (t : Fin cfg0.N) : iblk m c 2 t = V m c main_arg2 := by
  funext j; show V m c main_arg2 (((cfg0.win 2).blk t).view.emb j) = V m c main_arg2 j; rw [emb2]
theorem iblk3_eq (c : Dev nD) (t : Fin cfg0.N) : iblk m c 3 t = V m c main_arg3 := by
  funext j; show V m c main_arg3 (((cfg0.win 3).blk t).view.emb j) = V m c main_arg3 j; rw [emb3]
theorem iblk4_eq (c : Dev nD) (t : Fin cfg0.N) : iblk m c 4 t = V m c main_arg4 := by
  funext j; show V m c main_arg4 (((cfg0.win 4).blk t).view.emb j) = V m c main_arg4 j; rw [emb4]
theorem iblk5_eq (c : Dev nD) (t : Fin cfg0.N) : iblk m c 5 t = V m c main_arg5 := by
  funext j; show V m c main_arg5 (((cfg0.win 5).blk t).view.emb j) = V m c main_arg5 j; rw [emb5]
theorem iblk6_eq (c : Dev nD) (t : Fin cfg0.N) : iblk m c 6 t = V m c main_v0 := by
  funext j; show V m c main_v0 (((cfg0.win 6).blk t).view.emb j) = V m c main_v0 j; rw [emb6]

/-- The blocks together are the body's arguments. -/
theorem blocks_eq (c : Dev nD) (t : Fin cfg0.N) : (⟨iblk m c 0 t, iblk m c 1 t, iblk m c 2 t, iblk m c 3 t, iblk m c 4 t, iblk m c 5 t, iblk m c 6 t⟩ : In F) = inOf m c := by
  rw [iblk0_eq, iblk1_eq, iblk2_eq, iblk3_eq, iblk4_eq, iblk5_eq, iblk6_eq, V_main_arg0, V_main_arg1, V_main_arg2, V_main_arg3, V_main_arg4, V_main_arg5, V_v0]
  rfl

/-- The result arrays. -/
theorem flat7 (c : Dev nD) (arg0 : Memref sig .tc .vmem S24x1x2048 .bf16) (harg0 : arg0.IsWhole) (arg1 : Memref sig .tc .vmem S5x24x2x2048 .fp8e4m3) (harg1 : arg1.IsWhole) (arg2 : Memref sig .tc .vmem S5x24x2 .f32) (harg2 : arg2.IsWhole) (arg3 : Memref sig .tc .vmem S5x3x2048x2048 .fp8e4m3) (harg3 : arg3.IsWhole) (arg4 : Memref sig .tc .vmem S5x2048 .f32) (harg4 : arg4.IsWhole) (arg5 : Memref sig .tc .vmem S5x2048 .f32) (harg5 : arg5.IsWhole) (arg6 : Memref sig .tc .vmem S24x1 .i32) (harg6 : arg6.IsWhole) (arg7 : Memref sig .tc .vmem S24x1x2048 .bf16) (harg7 : arg7.IsWhole) (arg8 : Memref sig .tc .vmem S5x24x1x2048 .fp8e4m3) (harg8 : arg8.IsWhole) (arg9 : Memref sig .tc .vmem S5x24x1 .f32) (harg9 : arg9.IsWhole) (arg10 : Memref sig .tc .vmem S5x24x2x2048 .fp8e4m3) (harg10 : arg10.IsWhole) (arg11 : Memref sig .tc .vmem S5x24x2 .f32) (harg11 : arg11.IsWhole) (x0 : Vec F S24x1x2048 .bf16) (x1 : Vec F S5x24x2x2048 .fp8e4m3) (x2 : Vec F S5x24x2 .f32) (x3 : Vec F S5x3x2048x2048 .fp8e4m3) (x4 x5 : Vec F S5x2048 .f32) (x6 : Vec F S24x1 .i32) :
    out0_A_7 (F := F) c arg0 harg0 arg1 harg1 arg2 harg2 arg3 harg3 arg4 harg4 arg5 harg5 arg6 harg6 arg7 harg7 arg8 harg8 arg9 harg9 arg10 harg10 arg11 harg11 x0 x1 x2 x3 x4 x5 x6 = Y ⟨x0, x1, x2, x3, x4, x5, x6⟩ := out7 c arg0 harg0 arg1 harg1 arg2 harg2 arg3 harg3 arg4 harg4 arg5 harg5 arg6 harg6 arg7 harg7 arg8 harg8 arg9 harg9 arg10 harg10 arg11 harg11 ⟨x0, x1, x2, x3, x4, x5, x6⟩
theorem flushed7_eq (c : Dev nD) (t : Fin cfg0.N) : (dats m 0 c).flushed 7 t = ((cfg0.win 7).blk t).view.read (Elt F) (Y (inOf m c)) := by
  rw [flushed7_A]
  rw [flat7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t), blocks_eq]
  generalize Y (inOf m c) = Z
  funext j; show Z j = Z (((cfg0.win 7).blk t).view.emb j); rw [emb7]
theorem final7 (c : Dev nD) : (dats m 0 c).arrAt 7 cfg0.N = Y (inOf m c) :=
  (dats m 0 c).arrAt_eq_of_cover 7 _ (fun t _ => flushed7_eq m c t) fun i => ⟨(⟨0, by decide⟩ : Fin cfg0.N), flush0_7 _, by
    have h := ((cfg0.win 7).blk (⟨0, by decide⟩ : Fin cfg0.N)).view.emb_mem_set i; rwa [emb7] at h⟩
theorem flat8 (c : Dev nD) (arg0 : Memref sig .tc .vmem S24x1x2048 .bf16) (harg0 : arg0.IsWhole) (arg1 : Memref sig .tc .vmem S5x24x2x2048 .fp8e4m3) (harg1 : arg1.IsWhole) (arg2 : Memref sig .tc .vmem S5x24x2 .f32) (harg2 : arg2.IsWhole) (arg3 : Memref sig .tc .vmem S5x3x2048x2048 .fp8e4m3) (harg3 : arg3.IsWhole) (arg4 : Memref sig .tc .vmem S5x2048 .f32) (harg4 : arg4.IsWhole) (arg5 : Memref sig .tc .vmem S5x2048 .f32) (harg5 : arg5.IsWhole) (arg6 : Memref sig .tc .vmem S24x1 .i32) (harg6 : arg6.IsWhole) (arg7 : Memref sig .tc .vmem S24x1x2048 .bf16) (harg7 : arg7.IsWhole) (arg8 : Memref sig .tc .vmem S5x24x1x2048 .fp8e4m3) (harg8 : arg8.IsWhole) (arg9 : Memref sig .tc .vmem S5x24x1 .f32) (harg9 : arg9.IsWhole) (arg10 : Memref sig .tc .vmem S5x24x2x2048 .fp8e4m3) (harg10 : arg10.IsWhole) (arg11 : Memref sig .tc .vmem S5x24x2 .f32) (harg11 : arg11.IsWhole) (x0 : Vec F S24x1x2048 .bf16) (x1 : Vec F S5x24x2x2048 .fp8e4m3) (x2 : Vec F S5x24x2 .f32) (x3 : Vec F S5x3x2048x2048 .fp8e4m3) (x4 x5 : Vec F S5x2048 .f32) (x6 : Vec F S24x1 .i32) :
    out0_A_8 (F := F) c arg0 harg0 arg1 harg1 arg2 harg2 arg3 harg3 arg4 harg4 arg5 harg5 arg6 harg6 arg7 harg7 arg8 harg8 arg9 harg9 arg10 harg10 arg11 harg11 x0 x1 x2 x3 x4 x5 x6 = CODES ⟨x0, x1, x2, x3, x4, x5, x6⟩ := out8 c arg0 harg0 arg1 harg1 arg2 harg2 arg3 harg3 arg4 harg4 arg5 harg5 arg6 harg6 arg7 harg7 arg8 harg8 arg9 harg9 arg10 harg10 arg11 harg11 ⟨x0, x1, x2, x3, x4, x5, x6⟩
theorem flushed8_eq (c : Dev nD) (t : Fin cfg0.N) : (dats m 0 c).flushed 8 t = ((cfg0.win 8).blk t).view.read (Elt F) (CODES (inOf m c)) := by
  rw [flushed8_A]
  rw [flat8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t), blocks_eq]
  generalize CODES (inOf m c) = Z
  funext j; show Z j = Z (((cfg0.win 8).blk t).view.emb j); rw [emb8]
theorem final8 (c : Dev nD) : (dats m 0 c).arrAt 8 cfg0.N = CODES (inOf m c) :=
  (dats m 0 c).arrAt_eq_of_cover 8 _ (fun t _ => flushed8_eq m c t) fun i => ⟨(⟨0, by decide⟩ : Fin cfg0.N), flush0_8 _, by
    have h := ((cfg0.win 8).blk (⟨0, by decide⟩ : Fin cfg0.N)).view.emb_mem_set i; rwa [emb8] at h⟩
theorem flat9 (c : Dev nD) (arg0 : Memref sig .tc .vmem S24x1x2048 .bf16) (harg0 : arg0.IsWhole) (arg1 : Memref sig .tc .vmem S5x24x2x2048 .fp8e4m3) (harg1 : arg1.IsWhole) (arg2 : Memref sig .tc .vmem S5x24x2 .f32) (harg2 : arg2.IsWhole) (arg3 : Memref sig .tc .vmem S5x3x2048x2048 .fp8e4m3) (harg3 : arg3.IsWhole) (arg4 : Memref sig .tc .vmem S5x2048 .f32) (harg4 : arg4.IsWhole) (arg5 : Memref sig .tc .vmem S5x2048 .f32) (harg5 : arg5.IsWhole) (arg6 : Memref sig .tc .vmem S24x1 .i32) (harg6 : arg6.IsWhole) (arg7 : Memref sig .tc .vmem S24x1x2048 .bf16) (harg7 : arg7.IsWhole) (arg8 : Memref sig .tc .vmem S5x24x1x2048 .fp8e4m3) (harg8 : arg8.IsWhole) (arg9 : Memref sig .tc .vmem S5x24x1 .f32) (harg9 : arg9.IsWhole) (arg10 : Memref sig .tc .vmem S5x24x2x2048 .fp8e4m3) (harg10 : arg10.IsWhole) (arg11 : Memref sig .tc .vmem S5x24x2 .f32) (harg11 : arg11.IsWhole) (x0 : Vec F S24x1x2048 .bf16) (x1 : Vec F S5x24x2x2048 .fp8e4m3) (x2 : Vec F S5x24x2 .f32) (x3 : Vec F S5x3x2048x2048 .fp8e4m3) (x4 x5 : Vec F S5x2048 .f32) (x6 : Vec F S24x1 .i32) :
    out0_A_9 (F := F) c arg0 harg0 arg1 harg1 arg2 harg2 arg3 harg3 arg4 harg4 arg5 harg5 arg6 harg6 arg7 harg7 arg8 harg8 arg9 harg9 arg10 harg10 arg11 harg11 x0 x1 x2 x3 x4 x5 x6 = SCALES ⟨x0, x1, x2, x3, x4, x5, x6⟩ := out9 c arg0 harg0 arg1 harg1 arg2 harg2 arg3 harg3 arg4 harg4 arg5 harg5 arg6 harg6 arg7 harg7 arg8 harg8 arg9 harg9 arg10 harg10 arg11 harg11 ⟨x0, x1, x2, x3, x4, x5, x6⟩
theorem flushed9_eq (c : Dev nD) (t : Fin cfg0.N) : (dats m 0 c).flushed 9 t = ((cfg0.win 9).blk t).view.read (Elt F) (SCALES (inOf m c)) := by
  rw [flushed9_A]
  rw [flat9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t), blocks_eq]
  generalize SCALES (inOf m c) = Z
  funext j; show Z j = Z (((cfg0.win 9).blk t).view.emb j); rw [emb9]
theorem final9 (c : Dev nD) : (dats m 0 c).arrAt 9 cfg0.N = SCALES (inOf m c) :=
  (dats m 0 c).arrAt_eq_of_cover 9 _ (fun t _ => flushed9_eq m c t) fun i => ⟨(⟨0, by decide⟩ : Fin cfg0.N), flush0_9 _, by
    have h := ((cfg0.win 9).blk (⟨0, by decide⟩ : Fin cfg0.N)).view.emb_mem_set i; rwa [emb9] at h⟩
theorem flat10 (c : Dev nD) (arg0 : Memref sig .tc .vmem S24x1x2048 .bf16) (harg0 : arg0.IsWhole) (arg1 : Memref sig .tc .vmem S5x24x2x2048 .fp8e4m3) (harg1 : arg1.IsWhole) (arg2 : Memref sig .tc .vmem S5x24x2 .f32) (harg2 : arg2.IsWhole) (arg3 : Memref sig .tc .vmem S5x3x2048x2048 .fp8e4m3) (harg3 : arg3.IsWhole) (arg4 : Memref sig .tc .vmem S5x2048 .f32) (harg4 : arg4.IsWhole) (arg5 : Memref sig .tc .vmem S5x2048 .f32) (harg5 : arg5.IsWhole) (arg6 : Memref sig .tc .vmem S24x1 .i32) (harg6 : arg6.IsWhole) (arg7 : Memref sig .tc .vmem S24x1x2048 .bf16) (harg7 : arg7.IsWhole) (arg8 : Memref sig .tc .vmem S5x24x1x2048 .fp8e4m3) (harg8 : arg8.IsWhole) (arg9 : Memref sig .tc .vmem S5x24x1 .f32) (harg9 : arg9.IsWhole) (arg10 : Memref sig .tc .vmem S5x24x2x2048 .fp8e4m3) (harg10 : arg10.IsWhole) (arg11 : Memref sig .tc .vmem S5x24x2 .f32) (harg11 : arg11.IsWhole) (x0 : Vec F S24x1x2048 .bf16) (x1 : Vec F S5x24x2x2048 .fp8e4m3) (x2 : Vec F S5x24x2 .f32) (x3 : Vec F S5x3x2048x2048 .fp8e4m3) (x4 x5 : Vec F S5x2048 .f32) (x6 : Vec F S24x1 .i32) :
    out0_A_10 (F := F) c arg0 harg0 arg1 harg1 arg2 harg2 arg3 harg3 arg4 harg4 arg5 harg5 arg6 harg6 arg7 harg7 arg8 harg8 arg9 harg9 arg10 harg10 arg11 harg11 x0 x1 x2 x3 x4 x5 x6 = NSC ⟨x0, x1, x2, x3, x4, x5, x6⟩ := out10 c arg0 harg0 arg1 harg1 arg2 harg2 arg3 harg3 arg4 harg4 arg5 harg5 arg6 harg6 arg7 harg7 arg8 harg8 arg9 harg9 arg10 harg10 arg11 harg11 ⟨x0, x1, x2, x3, x4, x5, x6⟩
theorem flushed10_eq (c : Dev nD) (t : Fin cfg0.N) : (dats m 0 c).flushed 10 t = ((cfg0.win 10).blk t).view.read (Elt F) (NSC (inOf m c)) := by
  rw [flushed10_A]
  rw [flat10 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t), blocks_eq]
  generalize NSC (inOf m c) = Z
  funext j; show Z j = Z (((cfg0.win 10).blk t).view.emb j); rw [emb10]
theorem final10 (c : Dev nD) : (dats m 0 c).arrAt 10 cfg0.N = NSC (inOf m c) :=
  (dats m 0 c).arrAt_eq_of_cover 10 _ (fun t _ => flushed10_eq m c t) fun i => ⟨(⟨0, by decide⟩ : Fin cfg0.N), flush0_10 _, by
    have h := ((cfg0.win 10).blk (⟨0, by decide⟩ : Fin cfg0.N)).view.emb_mem_set i; rwa [emb10] at h⟩
theorem flat11 (c : Dev nD) (arg0 : Memref sig .tc .vmem S24x1x2048 .bf16) (harg0 : arg0.IsWhole) (arg1 : Memref sig .tc .vmem S5x24x2x2048 .fp8e4m3) (harg1 : arg1.IsWhole) (arg2 : Memref sig .tc .vmem S5x24x2 .f32) (harg2 : arg2.IsWhole) (arg3 : Memref sig .tc .vmem S5x3x2048x2048 .fp8e4m3) (harg3 : arg3.IsWhole) (arg4 : Memref sig .tc .vmem S5x2048 .f32) (harg4 : arg4.IsWhole) (arg5 : Memref sig .tc .vmem S5x2048 .f32) (harg5 : arg5.IsWhole) (arg6 : Memref sig .tc .vmem S24x1 .i32) (harg6 : arg6.IsWhole) (arg7 : Memref sig .tc .vmem S24x1x2048 .bf16) (harg7 : arg7.IsWhole) (arg8 : Memref sig .tc .vmem S5x24x1x2048 .fp8e4m3) (harg8 : arg8.IsWhole) (arg9 : Memref sig .tc .vmem S5x24x1 .f32) (harg9 : arg9.IsWhole) (arg10 : Memref sig .tc .vmem S5x24x2x2048 .fp8e4m3) (harg10 : arg10.IsWhole) (arg11 : Memref sig .tc .vmem S5x24x2 .f32) (harg11 : arg11.IsWhole) (x0 : Vec F S24x1x2048 .bf16) (x1 : Vec F S5x24x2x2048 .fp8e4m3) (x2 : Vec F S5x24x2 .f32) (x3 : Vec F S5x3x2048x2048 .fp8e4m3) (x4 x5 : Vec F S5x2048 .f32) (x6 : Vec F S24x1 .i32) :
    out0_A_11 (F := F) c arg0 harg0 arg1 harg1 arg2 harg2 arg3 harg3 arg4 harg4 arg5 harg5 arg6 harg6 arg7 harg7 arg8 harg8 arg9 harg9 arg10 harg10 arg11 harg11 x0 x1 x2 x3 x4 x5 x6 = NSS ⟨x0, x1, x2, x3, x4, x5, x6⟩ := out11 c arg0 harg0 arg1 harg1 arg2 harg2 arg3 harg3 arg4 harg4 arg5 harg5 arg6 harg6 arg7 harg7 arg8 harg8 arg9 harg9 arg10 harg10 arg11 harg11 ⟨x0, x1, x2, x3, x4, x5, x6⟩
theorem flushed11_eq (c : Dev nD) (t : Fin cfg0.N) : (dats m 0 c).flushed 11 t = ((cfg0.win 11).blk t).view.read (Elt F) (NSS (inOf m c)) := by
  rw [flushed11_A]
  rw [flat11 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t), blocks_eq]
  generalize NSS (inOf m c) = Z
  funext j; show Z j = Z (((cfg0.win 11).blk t).view.emb j); rw [emb11]
theorem final11 (c : Dev nD) : (dats m 0 c).arrAt 11 cfg0.N = NSS (inOf m c) :=
  (dats m 0 c).arrAt_eq_of_cover 11 _ (fun t _ => flushed11_eq m c t) fun i => ⟨(⟨0, by decide⟩ : Fin cfg0.N), flush0_11 _, by
    have h := ((cfg0.win 11).blk (⟨0, by decide⟩ : Fin cfg0.N)).view.emb_mem_set i; rwa [emb11] at h⟩

/-- The run of the reference: each result array at its function of the arguments, and the arguments unchanged. -/
theorem run : θ_run defs (onTc (τ := τ) (main (F := F))) ⟨m, fun _ => 0, ρ⟩ fun r => ∀ c : Dev nD,
      r.2.mem ((c : Thread nD τ).loc main_v1_0) = Y (inOf m c)
      ∧ r.2.mem ((c : Thread nD τ).loc main_v1_1) = CODES (inOf m c)
      ∧ r.2.mem ((c : Thread nD τ).loc main_v1_2) = SCALES (inOf m c)
      ∧ r.2.mem ((c : Thread nD τ).loc main_v1_3) = NSC (inOf m c)
      ∧ r.2.mem ((c : Thread nD τ).loc main_v1_4) = NSS (inOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2.1.trans (final9 m c),
    (h c).2.2.2.1.trans (final10 m c), (h c).2.2.2.2.1.trans (final11 m c), (h c).2.2.2.2.2⟩) (run_blocks m ρ)

end Cert.ReferenceIdeal.Hand

end
-- ==== Proof.Ref.Layers.lean ====
/- The reference's layer functions and results over the reals, one value at a time. -/
module

public import proofs.«01_k».proof.Proof.Ref.Out
public import proofs.«01_k».proof.Proof.Math.Row
public import proofs.«01_k».proof.Proof.Math.Elu
public import proofs.«01_k».proof.Proof.Math.Parity

@[expose] public section

set_option maxRecDepth 16384

noncomputable section

namespace Cert.ReferenceIdeal.Hand

open Cert.ReferenceIdeal Cert.ReferenceIdeal.Gen
open Idealize.ShloMosaic
open Idealize.ShloMosaic.TcCoe
open Idealize.SL.Sem

open Cert.Layer (Rows top scl code elu)

variable (r : In Ideal) (l : Fin 5) (A : FVec Ideal S24x2048 .f32)

theorem expo_at (j : S24x1.Idx) : k0_pay7 A j = Layer.expo (top A (j 0)) := by
  pointwise [k0_pay7]
  rfl
theorem scale_at (j : S24x1.Idx) : k0_pay9 A j = scl A (j 0) := by
  pointwise [k0_pay9]
  rw [expo_at]; rfl
theorem code_at (j : S24x2048.Idx) : k0_pay8 A j = code A (j 0) (j 1) := by
  pointwise [k0_pay8]
  rw [expo_at, eq_ix2 j]; rfl

/-- The parity of a row's position. -/
def par (i : Fin 24) : ℕ := (r.POS (ix2 i 0) : BitVec 32).toNat % 2

theorem s0_at (j : S24x1.Idx) : s0 r l j = if par r (j 0) = 1 then r.SS (ix3 l (j 0) 1) else r.SS (ix3 l (j 0) 0) := by
  pointwise [s0, k0_pay14, k0_pay12, k0_pay13, k0_pay1]
  refine (congrArg (fun z => Scalar.select z _ _) (Layer.odd_add0 (r.POS j))).trans ?_
  rw [Layer.sel_ite]
  have e : j = ix2 (j 0) 0 := by rw [eq_ix2 j]; congr 1; exact Subsingleton.elim (α := Fin 1) _ _
  conv_lhs => rw [e]
  rfl
theorem s1_at (j : S24x1.Idx) : s1 r l j = if par r (j 0) = 0 then r.SS (ix3 l (j 0) 1) else r.SS (ix3 l (j 0) 0) := by
  pointwise [s1, k0_pay18, k0_pay17, k0_pay16, k0_pay1]
  refine (congrArg (fun z => Scalar.select z _ _) (Layer.odd_add1 (r.POS j))).trans ?_
  rw [Layer.sel_ite]
  have e : j = ix2 (j 0) 0 := by rw [eq_ix2 j]; congr 1; exact Subsingleton.elim (α := Fin 1) _ _
  conv_lhs => rw [e]
  rfl
theorem c0_at (j : S24x2048.Idx) : c0 r l j = if par r (j 0) = 1 then r.SC (ix4 l (j 0) 1 (j 1)) else r.SC (ix4 l (j 0) 0 (j 1)) := by
  pointwise [c0, k0_pay15, k0_pay12, k0_pay13, k0_pay1]
  refine (congrArg (fun z => Scalar.select z _ _) (Layer.odd_add0 (r.POS (ix2 (j 0) 0)))).trans ?_
  rw [Layer.sel_ite]
  rfl
theorem c1_at (j : S24x2048.Idx) : c1 r l j = if par r (j 0) = 0 then r.SC (ix4 l (j 0) 1 (j 1)) else r.SC (ix4 l (j 0) 0 (j 1)) := by
  pointwise [c1, k0_pay19, k0_pay17, k0_pay16, k0_pay1]
  refine (congrArg (fun z => Scalar.select z _ _) (Layer.odd_add1 (r.POS (ix2 (j 0) 0)))).trans ?_
  rw [Layer.sel_ite]
  rfl

theorem pre_at (j : S24x2048.Idx) : pre r l A j
    = ((∑ x : Fin 2048, c0 r l (ix2 (j 0) x) * s0 r l (ix2 (j 0) 0) * (r.W (ix4 l 0 x (j 1)) : EReal))
      + (∑ x : Fin 2048, c1 r l (ix2 (j 0) x) * s1 r l (ix2 (j 0) 0) * (r.W (ix4 l 1 x (j 1)) : EReal))
      + (∑ x : Fin 2048, code A (j 0) x * scl A (j 0) * (r.W (ix4 l 2 x (j 1)) : EReal))) * r.WS (ix2 l (j 1)) + r.Bi (ix2 l (j 1)) := by
  pointwise [pre, k0_pay22, k0_pay20, k0_pay21]
  simp only [code_at, scale_at]
  rfl

theorem elu_at (v : FVec Ideal S24x2048 .f32) (j : S24x2048.Idx) : k0_pay5 v j = elu (v j) := by
  unfold elu
  pointwise [k0_pay5]

theorem carry_zero : (carry r 0).1 = fun j : S24x2048.Idx => r.X (ix3 (j 0) 0 (j 1)) := by
  funext j
  show k0_pay2 r.X j = _
  pointwise [k0_pay2]

/-! ## The results -/

theorem Y_at (j : S24x1x2048.Idx) : Y r j = pre r 4 (carry r 4).1 (ix2 (j 0) (j 2)) := by
  have h : (carry r 5).2 = pre r 4 (carry r 4).1 := congrArg Prod.snd (carry_succ r 4)
  rw [← h]
  pointwise [Y, k0_pay6]
theorem CODES_at (j : S5x24x1x2048.Idx) : CODES r j = code (carry r (j 0).val).1 (j 1) (j 3) := by
  have h : codesP (carry r (j 0).val).1 (ix4 0 (j 1) 0 (j 3)) = k0_pay8 (carry r (j 0).val).1 (ix2 (j 1) (j 3)) := by
    pointwise [codesP, k0_pay10]
  exact h.trans (code_at _ _)
theorem SCALES_at (j : S5x24x1.Idx) : SCALES r j = scl (carry r (j 0).val).1 (j 1) := by
  have h : scalesP (carry r (j 0).val).1 (ix3 0 (j 1) 0) = k0_pay9 (carry r (j 0).val).1 (ix2 (j 1) 0) := by
    pointwise [scalesP, k0_pay11]
  exact h.trans (scale_at _ _)
theorem nscP_at (i : Fin 24) (s : Fin 2) (x : Fin 2048) : nscP r l A (ix4 0 i s x) = if par r i = s.val then code A i x else c1 r l (ix2 i x) := by
  pointwise [nscP, k0_pay25, k0_pay23, k0_pay24, k0_pay1]
  refine (congrArg (fun z => Scalar.select z _ _) (Layer.odd_slot s (r.POS (ix2 i 0)))).trans ?_
  rw [Layer.sel_ite, code_at]
  rfl
theorem nssP_at (i : Fin 24) (s : Fin 2) : nssP r l A (ix3 0 i s) = if par r i = s.val then scl A i else s1 r l (ix2 i 0) := by
  pointwise [nssP, k0_pay4, k0_pay26, k0_pay27, k0_pay28, k0_pay1]
  refine (congrArg (fun z => Scalar.select z _ _) (Layer.odd_slot s (r.POS (ix2 i 0)))).trans ?_
  rw [Layer.sel_ite, scale_at]
  rfl

/-- A slot that the layer does not replace is the newer of its two rows of history. -/
theorem par_cases (i : Fin 24) (s : Fin 2) (h : ¬ par r i = s.val) : par r i = 0 ∧ s = 1 ∨ par r i = 1 ∧ s = 0 := by
  have : par r i < 2 := Nat.mod_lt _ (by norm_num)
  have := s.isLt
  have e1 : s.val = 1 → s = 1 := fun h => Fin.ext h
  have e0 : s.val = 0 → s = 0 := fun h => Fin.ext h
  omega
theorem c1_kept (i : Fin 24) (s : Fin 2) (x : Fin 2048) (h : ¬ par r i = s.val) : c1 r l (ix2 i x) = r.SC (ix4 l i s x) := by
  refine (c1_at r l _).trans ?_
  rcases par_cases r i s h with ⟨hp, rfl⟩ | ⟨hp, rfl⟩
  · exact if_pos hp
  · exact if_neg (by show ¬ par r i = 0; omega)
theorem s1_kept (i : Fin 24) (s : Fin 2) (h : ¬ par r i = s.val) : s1 r l (ix2 i 0) = r.SS (ix3 l i s) := by
  refine (s1_at r l _).trans ?_
  rcases par_cases r i s h with ⟨hp, rfl⟩ | ⟨hp, rfl⟩
  · exact if_pos hp
  · exact if_neg (by show ¬ par r i = 0; omega)
theorem NSC_at (j : S5x24x2x2048.Idx) : NSC r j = if par r (j 1) = (j 2).val then code (carry r (j 0).val).1 (j 1) (j 3) else r.SC (ix4 (j 0) (j 1) (j 2) (j 3)) := by
  refine (nscP_at r (j 0) _ (j 1) (j 2) (j 3)).trans ?_
  by_cases h : par r (j 1) = (j 2).val
  · rw [if_pos h, if_pos h]
  rw [if_neg h, if_neg h]
  exact c1_kept r (j 0) (j 1) (j 2) (j 3) h
theorem NSS_at (j : S5x24x2.Idx) : NSS r j = if par r (j 1) = (j 2).val then scl (carry r (j 0).val).1 (j 1) else r.SS (ix3 (j 0) (j 1) (j 2)) := by
  refine (nssP_at r (j 0) _ (j 1) (j 2)).trans ?_
  by_cases h : par r (j 1) = (j 2).val
  · rw [if_pos h, if_pos h]
  rw [if_neg h, if_neg h]
  exact s1_kept r (j 0) (j 1) (j 2) h

end Cert.ReferenceIdeal.Hand

end
-- ==== Proof.Equal.Compare.lean ====
/- The kernel's layers and the reference's are the same functions of the same arguments: the kernel's operands are the
   reference's with the two slots of the state moved in front of its rows, so the two recursions agree layer by layer. -/
module

public import proofs.«01_k».proof.Proof.Ideal.Layers
public import proofs.«01_k».proof.Proof.Ideal.Results
public import proofs.«01_k».proof.Proof.Ref.Layers

@[expose] public section

set_option maxRecDepth 16384

noncomputable section

namespace Cert.Compare

open Idealize.ShloMosaic
open Idealize.ShloMosaic.TcCoe
open Cert.Layer (Rows top scl code elu)
open Cert.ReferenceIdeal (S24x1x2048 S5x24x2x2048 S5x24x2 S5x3x2048x2048 S5x2048 S24 S24x1)

variable (x : Vec Ideal S24x1x2048 .bf16) (sc : Vec Ideal S5x24x2x2048 .fp8e4m3) (ss : Vec Ideal S5x24x2 .f32)
  (w : Vec Ideal S5x3x2048x2048 .fp8e4m3) (ws bi : Vec Ideal S5x2048 .f32) (pos : Vec Ideal S24 .i32)

/-- The arguments as the kernel's body reads them, and as the reference's does. -/
abbrev kin : KernelIdeal.Hand.In Ideal := KernelIdeal.Hand.inArgs x sc ss w ws bi pos
abbrev rin : ReferenceIdeal.Hand.In Ideal := ⟨x, sc, ss, w, ws, bi, shapeCast S24x1 pos ReferenceIdeal.Facts₀.shapeCasts_S24_S24x1⟩

theorem kX (i : Fin 24) (n : Fin 2048) : (kin x sc ss w ws bi pos).X (ix2 i n) = x (ix3 i 0 n) := by
  show (KernelIdeal.Hand.inArgs x sc ss w ws bi pos).X (ix2 i n) = _
  pointwise [KernelIdeal.Hand.inArgs]
theorem kSC (l : Fin 5) (s : Fin 2) (i : Fin 24) (n : Fin 2048) : (kin x sc ss w ws bi pos).SC (ix4 l s i n) = sc (ix4 l i s n) := by
  show (KernelIdeal.Hand.inArgs x sc ss w ws bi pos).SC (ix4 l s i n) = _
  pointwise [KernelIdeal.Hand.inArgs]
theorem kSS (l : Fin 5) (s : Fin 2) (i : Fin 24) : (kin x sc ss w ws bi pos).SS (ix3 l s i) = ss (ix3 l i s) := by
  show (KernelIdeal.Hand.inArgs x sc ss w ws bi pos).SS (ix3 l s i) = _
  pointwise [KernelIdeal.Hand.inArgs]
theorem kPOS (i : Fin 24) : (kin x sc ss w ws bi pos).POS (ix2 0 i) = pos (ix1 i) := by
  show (KernelIdeal.Hand.inArgs x sc ss w ws bi pos).POS (ix2 0 i) = _
  pointwise [KernelIdeal.Hand.inArgs]
theorem rPOS (i : Fin 24) : (rin x sc ss w ws bi pos).POS (ix2 i 0) = pos (ix1 i) := by
  show shapeCast S24x1 pos ReferenceIdeal.Facts₀.shapeCasts_S24_S24x1 (ix2 i 0) = _
  pointwise
theorem par_eq (i : Fin 24) : KernelIdeal.Hand.par (kin x sc ss w ws bi pos) i = ReferenceIdeal.Hand.par (rin x sc ss w ws bi pos) i :=
  congrArg (fun p : BitVec 32 => p.toNat % 2) ((kPOS x sc ss w ws bi pos i).trans (rPOS x sc ss w ws bi pos i).symm)

theorem slot_eq (l : Fin 5) (s : Fin 2) (i : Fin 24) (n : Fin 2048) :
    KernelIdeal.Hand.slot (kin x sc ss w ws bi pos) l s i n = sc (ix4 l i s n) * ss (ix3 l i s) :=
  congrArg₂ (· * ·) (kSC x sc ss w ws bi pos l s i n) (kSS x sc ss w ws bi pos l s i)

/-- The two rows of history: a chosen product is the product of the chosen. -/
theorem hist0_eq (l : Fin 5) (i : Fin 24) (n : Fin 2048) :
    (if KernelIdeal.Hand.par (kin x sc ss w ws bi pos) i = 1 then KernelIdeal.Hand.slot (kin x sc ss w ws bi pos) l 1 i n
      else KernelIdeal.Hand.slot (kin x sc ss w ws bi pos) l 0 i n)
    = ReferenceIdeal.Hand.c0 (rin x sc ss w ws bi pos) l (ix2 i n) * ReferenceIdeal.Hand.s0 (rin x sc ss w ws bi pos) l (ix2 i 0) := by
  rw [par_eq, slot_eq, slot_eq]
  refine Eq.trans ?_ (congrArg₂ (· * ·) (ReferenceIdeal.Hand.c0_at _ l (ix2 i n)) (ReferenceIdeal.Hand.s0_at _ l (ix2 i 0))).symm
  by_cases h : ReferenceIdeal.Hand.par (rin x sc ss w ws bi pos) i = 1
  · rw [if_pos h]; exact (congrArg₂ (· * ·) (if_pos h) (if_pos h)).symm
  · rw [if_neg h]; exact (congrArg₂ (· * ·) (if_neg h) (if_neg h)).symm
theorem hist1_eq (l : Fin 5) (i : Fin 24) (n : Fin 2048) :
    (if KernelIdeal.Hand.par (kin x sc ss w ws bi pos) i = 1 then KernelIdeal.Hand.slot (kin x sc ss w ws bi pos) l 0 i n
      else KernelIdeal.Hand.slot (kin x sc ss w ws bi pos) l 1 i n)
    = ReferenceIdeal.Hand.c1 (rin x sc ss w ws bi pos) l (ix2 i n) * ReferenceIdeal.Hand.s1 (rin x sc ss w ws bi pos) l (ix2 i 0) := by
  rw [par_eq, slot_eq, slot_eq]
  refine Eq.trans ?_ (congrArg₂ (· * ·) (ReferenceIdeal.Hand.c1_at _ l (ix2 i n)) (ReferenceIdeal.Hand.s1_at _ l (ix2 i 0))).symm
  have hb : ReferenceIdeal.Hand.par (rin x sc ss w ws bi pos) i < 2 := Nat.mod_lt _ (by norm_num)
  by_cases h : ReferenceIdeal.Hand.par (rin x sc ss w ws bi pos) i = 1
  · have h0 : ¬ ReferenceIdeal.Hand.par (rin x sc ss w ws bi pos) i = 0 := by omega
    rw [if_pos h]; exact (congrArg₂ (· * ·) (if_neg h0) (if_neg h0)).symm
  · have h0 : ReferenceIdeal.Hand.par (rin x sc ss w ws bi pos) i = 0 := by omega
    rw [if_neg h]; exact (congrArg₂ (· * ·) (if_pos h0) (if_pos h0)).symm

/-- A layer's value before its activation. -/
theorem pre_eq (l : Fin 5) (A : Rows) (i : Fin 24) (n : Fin 2048) :
    KernelIdeal.Hand.pre (kin x sc ss w ws bi pos) l A i n = ReferenceIdeal.Hand.pre (rin x sc ss w ws bi pos) l A (ix2 i n) := by
  refine Eq.trans ?_ (ReferenceIdeal.Hand.pre_at _ l A (ix2 i n)).symm
  unfold KernelIdeal.Hand.pre
  refine congrArg₂ (· + ·) (congrArg₂ (· * ·) (congrArg₂ (· + ·) (congrArg₂ (· + ·) ?_ ?_) rfl) rfl) rfl <;>
    refine Finset.sum_congr rfl fun t _ => congrArg₂ (· * ·) ?_ rfl
  · exact hist0_eq x sc ss w ws bi pos l i t
  · exact hist1_eq x sc ss w ws bi pos l i t

/-- What each layer quantises. -/
theorem act_eq (l : Fin 5) : KernelIdeal.Hand.act (kin x sc ss w ws bi pos) l = (ReferenceIdeal.Hand.carry (rin x sc ss w ws bi pos) l.val).1 := by
  induction l using Fin.induction with
  | zero =>
    refine (KernelIdeal.Hand.act_zero _).trans (Eq.trans ?_ (ReferenceIdeal.Hand.carry_zero _).symm)
    funext j
    rw [eq_ix2 j]
    exact kX x sc ss w ws bi pos _ _
  | succ k ih =>
    refine (KernelIdeal.Hand.act_next _ k).trans ?_
    refine Eq.trans ?_ (congrArg Prod.fst (ReferenceIdeal.Hand.carry_succ (rin x sc ss w ws bi pos) k.castSucc)).symm
    rw [ih]
    funext j
    refine (KernelIdeal.Hand.stepAct_at _ _ _ j).trans (Eq.trans ?_ (ReferenceIdeal.Hand.elu_at _ j).symm)
    exact congrArg elu ((pre_eq x sc ss w ws bi pos _ _ (j 0) (j 1)).trans (congrArg _ (eq_ix2 j).symm))

/-! ## The five results: the kernel's, as the host lines after its call leave them, are the reference's -/

theorem y_eq : shapeCast KernelIdeal.S24x1x2048 (KernelIdeal.Hand.YV (kin x sc ss w ws bi pos)) KernelIdeal.Facts₀.shapeCasts_S24x2048_S24x1x2048
    = ReferenceIdeal.Hand.Y (rin x sc ss w ws bi pos) := by
  funext j
  refine Eq.trans ?_ (ReferenceIdeal.Hand.Y_at _ j).symm
  pointwise
  refine (KernelIdeal.Hand.YV_at _ _).trans ((pre_eq x sc ss w ws bi pos 4 _ (j 0) (j 2)).trans ?_)
  exact congrArg (fun A => ReferenceIdeal.Hand.pre (rin x sc ss w ws bi pos) 4 A (ix2 (j 0) (j 2))) (act_eq x sc ss w ws bi pos 4)

theorem codes_eq : shapeCast KernelIdeal.S5x24x1x2048 (KernelIdeal.Hand.CODES (kin x sc ss w ws bi pos)) KernelIdeal.Facts₀.shapeCasts_S5x24x2048_S5x24x1x2048
    = ReferenceIdeal.Hand.CODES (rin x sc ss w ws bi pos) := by
  funext j
  refine Eq.trans ?_ (ReferenceIdeal.Hand.CODES_at _ j).symm
  pointwise
  refine (KernelIdeal.Hand.CODES_at _ _).trans ?_
  exact congrArg (fun A => code A (j 1) (j 3)) (act_eq x sc ss w ws bi pos (j 0))

theorem scales_eq : transpose KernelIdeal.S5x24x1 [0, 2, 1] (KernelIdeal.Hand.SCALES (kin x sc ss w ws bi pos)) KernelIdeal.Facts₀.transposes_S5x1x24_S5x24x1_0_2_1
    = ReferenceIdeal.Hand.SCALES (rin x sc ss w ws bi pos) := by
  funext j
  refine Eq.trans ?_ (ReferenceIdeal.Hand.SCALES_at _ j).symm
  pointwise
  refine (KernelIdeal.Hand.SCALES_at _ _).trans ?_
  exact congrArg (fun A => scl A (j 1)) (act_eq x sc ss w ws bi pos (j 0))

theorem nsc_eq : transpose KernelIdeal.S5x24x2x2048 [0, 2, 1, 3] (KernelIdeal.Hand.NSC (kin x sc ss w ws bi pos)) KernelIdeal.Facts₀.transposes_S5x2x24x2048_S5x24x2x2048_0_2_1_3
    = ReferenceIdeal.Hand.NSC (rin x sc ss w ws bi pos) := by
  funext j
  refine Eq.trans ?_ (ReferenceIdeal.Hand.NSC_at _ j).symm
  pointwise
  refine (KernelIdeal.Hand.NSC_at _ _).trans ?_
  refine (congrArg₂ (fun (p : ℕ) (v : EReal) => if p = (j 2).val then v else _) (par_eq x sc ss w ws bi pos (j 1))
    (congrArg (fun A => code A (j 1) (j 3)) (act_eq x sc ss w ws bi pos (j 0)))).trans ?_
  exact congrArg (fun v : EReal => if ReferenceIdeal.Hand.par (rin x sc ss w ws bi pos) (j 1) = (j 2).val then _ else v) ((kSC x sc ss w ws bi pos (j 0) (j 2) (j 1) (j 3)).trans (congrArg sc (eq_ix4 j).symm))

theorem nss_eq : transpose KernelIdeal.S5x24x2 [0, 2, 1] (KernelIdeal.Hand.NSS (kin x sc ss w ws bi pos)) KernelIdeal.Facts₀.transposes_S5x2x24_S5x24x2_0_2_1
    = ReferenceIdeal.Hand.NSS (rin x sc ss w ws bi pos) := by
  funext j
  refine Eq.trans ?_ (ReferenceIdeal.Hand.NSS_at _ j).symm
  pointwise
  refine (KernelIdeal.Hand.NSS_at _ _).trans ?_
  refine (congrArg₂ (fun (p : ℕ) (v : EReal) => if p = (j 2).val then v else _) (par_eq x sc ss w ws bi pos (j 1))
    (congrArg (fun A => scl A (j 1)) (act_eq x sc ss w ws bi pos (j 0)))).trans ?_
  exact congrArg (fun v : EReal => if ReferenceIdeal.Hand.par (rin x sc ss w ws bi pos) (j 1) = (j 2).val then _ else v) ((kSS x sc ss w ws bi pos (j 0) (j 2) (j 1)).trans (congrArg ss (eq_ix3 j).symm))

end Cert.Compare

end
-- ==== Proof.Ideal.Run.lean ====
/- The kernel's run over its arguments: what its five results end as, and that its arguments end as launched. -/
module

public import proofs.«01_k».proof.Proof.Ideal.Results

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-- The call's arguments, by the launch's. -/
def argsOf (c : Dev nD) : In F := inArgs (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

theorem run : θ_run defs (onTc (τ := τ) (main (F := F))) ⟨m, fun _ => 0, ρ⟩ fun r => ∀ c : Dev nD,
      r.2.mem ((c : Thread nD τ).loc main_v5) = shapeCast S24x1x2048 (YV (argsOf m c)) shapeCasts_S24x2048_S24x1x2048
      ∧ r.2.mem ((c : Thread nD τ).loc main_v6) = shapeCast S5x24x1x2048 (CODES (argsOf m c)) shapeCasts_S5x24x2048_S5x24x1x2048
      ∧ r.2.mem ((c : Thread nD τ).loc main_v7) = transpose S5x24x1 [0, 2, 1] (SCALES (argsOf m c)) transposes_S5x1x24_S5x24x1_0_2_1
      ∧ r.2.mem ((c : Thread nD τ).loc main_v8) = transpose S5x24x2x2048 [0, 2, 1, 3] (NSC (argsOf m c)) transposes_S5x2x24x2048_S5x24x2x2048_0_2_1_3
      ∧ r.2.mem ((c : Thread nD τ).loc main_v9) = transpose S5x24x2 [0, 2, 1] (NSS (argsOf m c)) transposes_S5x2x24_S5x24x2_0_2_1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨
    (h.1 c main_v5 (Pipeline.mem_restRefs_of main_v5 (by decide) (by decide))).trans ((fin_5 m c).trans (congrArg (fun a => shapeCast S24x1x2048 (YV a) shapeCasts_S24x2048_S24x1x2048) (inOf_eq m c))),
    (h.1 c main_v6 (Pipeline.mem_restRefs_of main_v6 (by decide) (by decide))).trans ((fin_6 m c).trans (congrArg (fun a => shapeCast S5x24x1x2048 (CODES a) shapeCasts_S5x24x2048_S5x24x1x2048) (inOf_eq m c))),
    (h.1 c main_v7 (Pipeline.mem_restRefs_of main_v7 (by decide) (by decide))).trans ((fin_7 m c).trans (congrArg (fun a => transpose S5x24x1 [0, 2, 1] (SCALES a) transposes_S5x1x24_S5x24x1_0_2_1) (inOf_eq m c))),
    (h.1 c main_v8 (Pipeline.mem_restRefs_of main_v8 (by decide) (by decide))).trans ((fin_8 m c).trans (congrArg (fun a => transpose S5x24x2x2048 [0, 2, 1, 3] (NSC a) transposes_S5x2x24x2048_S5x24x2x2048_0_2_1_3) (inOf_eq m c))),
    (h.1 c main_v9 (Pipeline.mem_restRefs_of main_v9 (by decide) (by decide))).trans ((fin_9 m c).trans (congrArg (fun a => transpose S5x24x2 [0, 2, 1] (NSS a) transposes_S5x2x24_S5x24x2_0_2_1) (inOf_eq m c))),
    (h.1 c main_arg0 (Pipeline.mem_restRefs_of main_arg0 (by decide) (by decide))).trans (fin_keep m c main_arg0 (by decide) (not_written _ (by decide)) (V_main_arg0 m c)),
    (h.1 c main_arg1 (Pipeline.mem_restRefs_of main_arg1 (by decide) (by decide))).trans (fin_keep m c main_arg1 (by decide) (not_written _ (by decide)) (V_main_arg1 m c)),
    (h.1 c main_arg2 (Pipeline.mem_restRefs_of main_arg2 (by decide) (by decide))).trans (fin_keep m c main_arg2 (by decide) (not_written _ (by decide)) (V_main_arg2 m c)),
    (h.1 c main_arg3 (Pipeline.mem_restRefs_of main_arg3 (by decide) (by decide))).trans (fin_keep m c main_arg3 (by decide) (not_written _ (by decide)) (V_main_arg3 m c)),
    (h.1 c main_arg4 (Pipeline.mem_restRefs_of main_arg4 (by decide) (by decide))).trans (fin_keep m c main_arg4 (by decide) (not_written _ (by decide)) (V_main_arg4 m c)),
    (h.1 c main_arg5 (Pipeline.mem_restRefs_of main_arg5 (by decide) (by decide))).trans (fin_keep m c main_arg5 (by decide) (not_written _ (by decide)) (V_main_arg5 m c)),
    (h.1 c main_arg6 (Pipeline.mem_restRefs_of main_arg6 (by decide) (by decide))).trans (fin_keep m c main_arg6 (by decide) (not_written _ (by decide)) (V_main_arg6 m c))⟩) (run_main m ρ)

end Cert.KernelIdeal.Hand

end
-- ==== Proof.Equal.Algebraic.lean ====
/- Over the reals, the kernel's five results are the reference's: the two runs, and the equalities of Compare.lean. -/
module

public import proofs.«01_k».proof.Defs
public import proofs.«01_k».proof.Proof.Equal.Compare
public import proofs.«01_k».proof.Proof.Ideal.Run

@[expose] public section

noncomputable section

namespace Cert.Compare

open Idealize.ShloMosaic Idealize.SL.Sem

/-- Arguments that agree are the same arguments of the reference's body. -/
theorem args_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)) :
    ReferenceIdeal.Hand.inOf m' c = rin (m ((c.tc : Thread KernelIdeal.nD KernelIdeal.τ).loc KernelIdeal.main_arg0)) (m ((c.tc : Thread KernelIdeal.nD KernelIdeal.τ).loc KernelIdeal.main_arg1))
      (m ((c.tc : Thread KernelIdeal.nD KernelIdeal.τ).loc KernelIdeal.main_arg2)) (m ((c.tc : Thread KernelIdeal.nD KernelIdeal.τ).loc KernelIdeal.main_arg3))
      (m ((c.tc : Thread KernelIdeal.nD KernelIdeal.τ).loc KernelIdeal.main_arg4)) (m ((c.tc : Thread KernelIdeal.nD KernelIdeal.τ).loc KernelIdeal.main_arg5))
      (m ((c.tc : Thread KernelIdeal.nD KernelIdeal.τ).loc KernelIdeal.main_arg6)) := by
  obtain ⟨h0, h1, h2, h3, h4, h5, h6⟩ := h
  unfold ReferenceIdeal.Hand.inOf
  rw [h0, h1, h2, h3, h4, h5, h6]

theorem algebraic : Cert.algebraic_KernelIdeal_ReferenceIdeal := by
  intro m ρ m' ρ' _ hagree
  refine ⟨fun c => ReferenceIdeal.Hand.Y (ReferenceIdeal.Hand.inOf m' c), fun c => ReferenceIdeal.Hand.CODES (ReferenceIdeal.Hand.inOf m' c),
    fun c => ReferenceIdeal.Hand.SCALES (ReferenceIdeal.Hand.inOf m' c), fun c => ReferenceIdeal.Hand.NSC (ReferenceIdeal.Hand.inOf m' c),
    fun c => ReferenceIdeal.Hand.NSS (ReferenceIdeal.Hand.inOf m' c), ?_, ReferenceIdeal.Hand.run m' ρ'⟩
  refine (θ_run Cert.KernelIdeal.defs _ _).mono (fun _ h c => ?_) (KernelIdeal.Hand.run m ρ)
  obtain ⟨h5, h6, h7, h8, h9, hk⟩ := h c
  have e := args_agree m m' c (hagree c)
  exact ⟨h5.trans ((y_eq _ _ _ _ _ _ _).trans (congrArg ReferenceIdeal.Hand.Y e.symm)),
    h6.trans ((codes_eq _ _ _ _ _ _ _).trans (congrArg ReferenceIdeal.Hand.CODES e.symm)),
    h7.trans ((scales_eq _ _ _ _ _ _ _).trans (congrArg ReferenceIdeal.Hand.SCALES e.symm)),
    h8.trans ((nsc_eq _ _ _ _ _ _ _).trans (congrArg ReferenceIdeal.Hand.NSC e.symm)),
    h9.trans ((nss_eq _ _ _ _ _ _ _).trans (congrArg ReferenceIdeal.Hand.NSS e.symm)), hk⟩

end Cert.Compare

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Ideal.Twin
public import proofs.«01_k».proof.Proof.Equal.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ, trivial, Cert.Compare.algebraic⟩

end Cert.Proof

end
